-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v89_0)) (v1 : (c : Dev Cert.KernelIdeal.nD) → Buf (Elt Ideal) ((c.tc : Thread Cert.KernelIdeal.nD Cert.KernelIdeal.τ).loc Cert.KernelIdeal.main_v89_1)) (v2 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89_0) = v0 c
          ∧ r.2.mem ((c.tc : Thread Cert.KernelIdeal.nD Cert.KernelIdeal.τ).loc Cert.KernelIdeal.main_v89_1) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2160x3840 : Shape := ⟨3, ![3, 2160, 3840]⟩
abbrev S1x2160x3840 : Shape := ⟨3, ![1, 2160, 3840]⟩
abbrev S20 : Shape := ⟨1, ![20]⟩
abbrev S4 : Shape := ⟨1, ![4]⟩
abbrev S4x1x128 : Shape := ⟨3, ![4, 1, 128]⟩
abbrev S728x1408 : Shape := ⟨2, ![728, 1408]⟩
abbrev S_ : Shape := ⟨0, ![]⟩
abbrev S1x728x1408 : Shape := ⟨3, ![1, 728, 1408]⟩
abbrev S720x1408 : Shape := ⟨2, ![720, 1408]⟩
abbrev S1x128 : Shape := ⟨2, ![1, 128]⟩
abbrev S1x720x1408 : Shape := ⟨3, ![1, 720, 1408]⟩
abbrev S1 : Shape := ⟨1, ![1]⟩
abbrev S1x1x1 : Shape := ⟨3, ![1, 1, 1]⟩
abbrev S1x1x128 : Shape := ⟨3, ![1, 1, 128]⟩
abbrev S1x1x20 : Shape := ⟨3, ![1, 1, 20]⟩
abbrev S2 : Shape := ⟨1, ![2]⟩
abbrev S3x720x1280 : Shape := ⟨3, ![3, 720, 1280]⟩
abbrev S1x720x1280 : Shape := ⟨3, ![1, 720, 1280]⟩
abbrev S720x1280 : Shape := ⟨2, ![720, 1280]⟩

abbrev nBuf : Space → Nat
  | .hbm => 117
  | .vmem => 8
  | .smem => 1
  | _ => 0

abbrev bufTy : (tb : Table) → Fin (tcTables nBuf tb) → BufTy
  | .hbm, ⟨0, _⟩ => ⟨S3x2160x3840, .f32⟩
  | .hbm, ⟨1, _⟩ => ⟨S1x2160x3840, .i32⟩
  | .hbm, ⟨2, _⟩ => ⟨S20, .f32⟩
  | .hbm, ⟨3, _⟩ => ⟨S4, .i32⟩
  | .hbm, ⟨4, _⟩ => ⟨S4, .i32⟩
  | .hbm, ⟨5, _⟩ => ⟨S4x1x128, .i32⟩
  | .hbm, ⟨6, _⟩ => ⟨S20, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S20, .f32⟩
  | .hbm, ⟨12, _⟩ => ⟨S20, .f32⟩
  | .hbm, ⟨13, _⟩ => ⟨S1x1x20, .i32⟩
  | .hbm, ⟨14, _⟩ => ⟨S20, .i32⟩
  | .hbm, ⟨15, _⟩ => ⟨S20, .i32⟩
  | .hbm, ⟨16, _⟩ => ⟨S20, .f32⟩
  | .hbm, ⟨17, _⟩ => ⟨S_, .i32⟩
  | .hbm, ⟨18, _⟩ => ⟨S1, .i32⟩
  | .hbm, ⟨19, _⟩ => ⟨S_, .f32⟩
  | .hbm, ⟨20, _⟩ => ⟨S20, .f32⟩
  | .hbm, ⟨21, _⟩ => ⟨S20, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S20, .f32⟩
  | .hbm, ⟨27, _⟩ => ⟨S20, .f32⟩
  | .hbm, ⟨28, _⟩ => ⟨S20, .f32⟩
  | .hbm, ⟨29, _⟩ => ⟨S_, .f32⟩
  | .hbm, ⟨30, _⟩ => ⟨S_, .f32⟩
  | .hbm, ⟨31, _⟩ => ⟨S1x1x20, .i32⟩
  | .hbm, ⟨32, _⟩ => ⟨S20, .i32⟩
  | .hbm, ⟨33, _⟩ => ⟨S20, .i32⟩
  | .hbm, ⟨34, _⟩ => ⟨S20, .f32⟩
  | .hbm, ⟨35, _⟩ => ⟨S_, .i32⟩
  | .hbm, ⟨36, _⟩ => ⟨S1, .i32⟩
  | .hbm, ⟨37, _⟩ => ⟨S_, .f32⟩
  | .hbm, ⟨38, _⟩ => ⟨S20, .f32⟩
  | .hbm, ⟨39, _⟩ => ⟨S20, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S20, .f32⟩
  | .hbm, ⟨45, _⟩ => ⟨S20, .f32⟩
  | .hbm, ⟨46, _⟩ => ⟨S20, .f32⟩
  | .hbm, ⟨47, _⟩ => ⟨S_, .f32⟩
  | .hbm, ⟨48, _⟩ => ⟨S_, .f32⟩
  | .hbm, ⟨49, _⟩ => ⟨S1x1x20, .i32⟩
  | .hbm, ⟨50, _⟩ => ⟨S20, .i32⟩
  | .hbm, ⟨51, _⟩ => ⟨S20, .i32⟩
  | .hbm, ⟨52, _⟩ => ⟨S20, .f32⟩
  | .hbm, ⟨53, _⟩ => ⟨S_, .i32⟩
  | .hbm, ⟨54, _⟩ => ⟨S1, .i32⟩
  | .hbm, ⟨55, _⟩ => ⟨S_, .f32⟩
  | .hbm, ⟨56, _⟩ => ⟨S20, .f32⟩
  | .hbm, ⟨57, _⟩ => ⟨S20, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S20, .f32⟩
  | .hbm, ⟨63, _⟩ => ⟨S20, .f32⟩
  | .hbm, ⟨64, _⟩ => ⟨S20, .f32⟩
  | .hbm, ⟨65, _⟩ => ⟨S_, .f32⟩
  | .hbm, ⟨66, _⟩ => ⟨S_, .f32⟩
  | .hbm, ⟨67, _⟩ => ⟨S1x1x20, .i32⟩
  | .hbm, ⟨68, _⟩ => ⟨S20, .i32⟩
  | .hbm, ⟨69, _⟩ => ⟨S20, .i32⟩
  | .hbm, ⟨70, _⟩ => ⟨S20, .f32⟩
  | .hbm, ⟨71, _⟩ => ⟨S_, .i32⟩
  | .hbm, ⟨72, _⟩ => ⟨S1, .i32⟩
  | .hbm, ⟨73, _⟩ => ⟨S_, .f32⟩
  | .hbm, ⟨74, _⟩ => ⟨S20, .f32⟩
  | .hbm, ⟨75, _⟩ => ⟨S20, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S20, .f32⟩
  | .hbm, ⟨81, _⟩ => ⟨S20, .f32⟩
  | .hbm, ⟨82, _⟩ => ⟨S20, .f32⟩
  | .hbm, ⟨83, _⟩ => ⟨S_, .f32⟩
  | .hbm, ⟨84, _⟩ => ⟨S_, .f32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S_, .i1⟩
  | .hbm, ⟨90, _⟩ => ⟨S_, .f32⟩
  | .hbm, ⟨91, _⟩ => ⟨S1, .i32⟩
  | .hbm, ⟨92, _⟩ => ⟨S_, .i32⟩
  | .hbm, ⟨93, _⟩ => ⟨S_, .i32⟩
  | .hbm, ⟨94, _⟩ => ⟨S1, .i32⟩
  | .hbm, ⟨95, _⟩ => ⟨S_, .i32⟩
  | .hbm, ⟨96, _⟩ => ⟨S_, .i32⟩
  | .hbm, ⟨97, _⟩ => ⟨S_, .i1⟩
  | .hbm, ⟨98, _⟩ => ⟨S_, .f32⟩
  | .hbm, ⟨99, _⟩ => ⟨S1, .i32⟩
  | .hbm, ⟨100, _⟩ => ⟨S_, .i32⟩
  | .hbm, ⟨101, _⟩ => ⟨S_, .i32⟩
  | .hbm, ⟨102, _⟩ => ⟨S1, .i32⟩
  | .hbm, ⟨103, _⟩ => ⟨S_, .i32⟩
  | .hbm, ⟨104, _⟩ => ⟨S_, .i32⟩
  | .hbm, ⟨105, _⟩ => ⟨S_, .i1⟩
  | .hbm, ⟨106, _⟩ => ⟨S_, .f32⟩
  | .hbm, ⟨107, _⟩ => ⟨S1, .i32⟩
  | .hbm, ⟨108, _⟩ => ⟨S_, .i32⟩
  | .hbm, ⟨109, _⟩ => ⟨S_, .i32⟩
  | .hbm, ⟨110, _⟩ => ⟨S1, .i32⟩
  | .hbm, ⟨111, _⟩ => ⟨S_, .i32⟩
  | .hbm, ⟨112, _⟩ => ⟨S_, .i32⟩
  | .hbm, ⟨113, _⟩ => ⟨S1, .i32⟩
  | .hbm, ⟨114, _⟩ => ⟨S1, .i32⟩
  | .hbm, ⟨115, _⟩ => ⟨S3x720x1280, .f32⟩
  | .hbm, ⟨116, _⟩ => ⟨S1x720x1280, .i32⟩
  | .local _ .vmem, ⟨0, _⟩ => ⟨S4x1x128, .i32⟩
  | .local _ .vmem, ⟨1, _⟩ => ⟨S728x1408, .i32⟩
  | .local _ .vmem, ⟨2, _⟩ => ⟨S728x1408, .i32⟩
  | .local _ .vmem, ⟨3, _⟩ => ⟨S1x720x1280, .f32⟩
  | .local _ .vmem, ⟨4, _⟩ => ⟨S1x720x1280, .f32⟩
  | .local _ .vmem, ⟨5, _⟩ => ⟨S1x720x1280, .i32⟩
  | .local _ .vmem, ⟨6, _⟩ => ⟨S728x1408, .f32⟩
  | .local _ .vmem, ⟨7, _⟩ => ⟨S728x1408, .i32⟩
  | .local _ .smem, ⟨0, _⟩ => ⟨S2, .i32⟩
  | _, _ => ⟨S3x2160x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_12 : Ref sig .tc := ⟨.hbm, 53, rfl⟩
abbrev main_v36 : Ref sig .tc := ⟨.hbm, 54, rfl⟩
abbrev main_cst_13 : Ref sig .tc := ⟨.hbm, 55, rfl⟩
abbrev main_v37 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_cst_15 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_17 : Ref sig .tc := ⟨.hbm, 71, rfl⟩
abbrev main_v49 : Ref sig .tc := ⟨.hbm, 72, rfl⟩
abbrev main_cst_18 : Ref sig .tc := ⟨.hbm, 73, rfl⟩
abbrev main_v50 : Ref sig .tc := ⟨.hbm, 74, rfl⟩
abbrev main_v51 : Ref sig .tc := ⟨.hbm, 75, rfl⟩
abbrev main_cst_19 : Ref sig .tc := ⟨.hbm, 76, rfl⟩
abbrev main_v52 : Ref sig .tc := ⟨.hbm, 77, rfl⟩
abbrev main_cst_20 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_21 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v89_0 : Ref sig .tc := ⟨.hbm, 115, rfl⟩
abbrev main_v89_1 : Ref sig .tc := ⟨.hbm, 116, rfl⟩
abbrev main_v88 : Ref sig .tc := ⟨.smem, 0, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_scratch0 : Ref sig .tc := ⟨.vmem, 6, rfl⟩
abbrev cc1_scratch1 : Ref sig .tc := ⟨.vmem, 7, rfl⟩
abbrev cc0_sem0_0 : DmaSem sig := 0
abbrev cc1_sem0_0 : DmaSem sig := 3
abbrev cc1_sem0_1 : DmaSem sig := 4
abbrev cc1_sem1_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨1, ![3], ![false]⟩

abbrev pre1 : Pipeline.Prefetch sig := ⟨1, ![main_v88.idx], fun | 0 => main_v88.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (v0 : BitVec 32) (v1 : BitVec 32) : Fin 3 → Nat :=
  let arg0 : BitVec 32 := BitVec.ofNat 32 (i 0).val
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v0 c8_i32
  let c0_i32_3 : BitVec 32 := 0#32
  let v15 : BitVec 1 := Scalar.cmpi .ne v14 c0_i32_3
  let v16 : BitVec 1 := Scalar.andi v13 v15
  let v2 : BitVec 32 := Scalar.divsi v0 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let c1432_i32 : BitVec 32 := 1432#32
  let v20 : BitVec 32 := Scalar.minsi v19 c1432_i32
  let c0_i32_5 : BitVec 32 := 0#32
  let v22 : BitVec 1 := Scalar.cmpi .sgt v1 c0_i32_5
  let v23 : BitVec 32 := Scalar.extui v22
  let c0_i32_6 : BitVec 32 := 0#32
  let v24 : BitVec 1 := Scalar.cmpi .slt v1 c0_i32_6
  let v25 : BitVec 32 := Scalar.extui v24
  let v26 : BitVec 32 := Scalar.subi v23 v25
  let c128_i32 : BitVec 32 := 128#32
  let c0_i32_7 : BitVec 32 := 0#32
  let v27 : BitVec 1 := Scalar.cmpi .sgt c128_i32 c0_i32_7
  let v28 : BitVec 32 := Scalar.extui v27
  let c0_i32_8 : BitVec 32 := 0#32
  let v29 : BitVec 1 := Scalar.cmpi .slt c128_i32 c0_i32_8
  let v30 : BitVec 32 := Scalar.extui v29
  let v31 : BitVec 32 := Scalar.subi v28 v30
  let v32 : BitVec 1 := Scalar.cmpi .ne v26 v31
  let v33 : BitVec 32 := Scalar.remsi v1 c128_i32
  let c0_i32_9 : BitVec 32 := 0#32
  let v34 : BitVec 1 := Scalar.cmpi .ne v33 c0_i32_9
  let v35 : BitVec 1 := Scalar.andi v32 v34
  let v21 : BitVec 32 := Scalar.divsi v1 c128_i32
  let c1_i32_10 : BitVec 32 := 1#32
  let v36 : BitVec 32 := Scalar.subi v21 c1_i32_10
  let v37 : BitVec 32 := Scalar.select v35 v36 v21
  let c128_i32_11 : BitVec 32 := 128#32
  let v38 : BitVec 32 := Scalar.muli v37 c128_i32_11
  let c2432_i32 : BitVec 32 := 2432#32
  let v39 : BitVec 32 := Scalar.minsi v38 c2432_i32
  ![arg0.toNat, v20.toNat, v39.toNat]

def k1_cond1 (i : grid1.Coords) : BitVec 1 :=
  let arg0 : BitVec 32 := BitVec.ofNat 32 (i 0).val
  let c0_i32_24 : BitVec 32 := 0#32
  let v66 : BitVec 1 := Scalar.cmpi .eq arg0 c0_i32_24
  let v67 : BitVec 32 := Scalar.extui v66
  let c0_i32_25 : BitVec 32 := 0#32
  let v68 : BitVec 1 := Scalar.cmpi .ne v67 c0_i32_25
  v68

def k1_off2 (v0 : BitVec 32) (v1 : BitVec 32) : Fin 3 → Nat :=
  let c0_i32_31 : BitVec 32 := 0#32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v0 c8_i32
  let c0_i32_3 : BitVec 32 := 0#32
  let v15 : BitVec 1 := Scalar.cmpi .ne v14 c0_i32_3
  let v16 : BitVec 1 := Scalar.andi v13 v15
  let v2 : BitVec 32 := Scalar.divsi v0 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let c1432_i32 : BitVec 32 := 1432#32
  let v20 : BitVec 32 := Scalar.minsi v19 c1432_i32
  let c0_i32_5 : BitVec 32 := 0#32
  let v22 : BitVec 1 := Scalar.cmpi .sgt v1 c0_i32_5
  let v23 : BitVec 32 := Scalar.extui v22
  let c0_i32_6 : BitVec 32 := 0#32
  let v24 : BitVec 1 := Scalar.cmpi .slt v1 c0_i32_6
  let v25 : BitVec 32 := Scalar.extui v24
  let v26 : BitVec 32 := Scalar.subi v23 v25
  let c128_i32 : BitVec 32 := 128#32
  let c0_i32_7 : BitVec 32 := 0#32
  let v27 : BitVec 1 := Scalar.cmpi .sgt c128_i32 c0_i32_7
  let v28 : BitVec 32 := Scalar.extui v27
  let c0_i32_8 : BitVec 32 := 0#32
  let v29 : BitVec 1 := Scalar.cmpi .slt c128_i32 c0_i32_8
  let v30 : BitVec 32 := Scalar.extui v29
  let v31 : BitVec 32 := Scalar.subi v28 v30
  let v32 : BitVec 1 := Scalar.cmpi .ne v26 v31
  let v33 : BitVec 32 := Scalar.remsi v1 c128_i32
  let c0_i32_9 : BitVec 32 := 0#32
  let v34 : BitVec 1 := Scalar.cmpi .ne v33 c0_i32_9
  let v35 : BitVec 1 := Scalar.andi v32 v34
  let v21 : BitVec 32 := Scalar.divsi v1 c128_i32
  let c1_i32_10 : BitVec 32 := 1#32
  let v36 : BitVec 32 := Scalar.subi v21 c1_i32_10
  let v37 : BitVec 32 := Scalar.select v35 v36 v21
  let c128_i32_11 : BitVec 32 := 128#32
  let v38 : BitVec 32 := Scalar.muli v37 c128_i32_11
  let c2432_i32 : BitVec 32 := 2432#32
  let v39 : BitVec 32 := Scalar.minsi v38 c2432_i32
  ![0, v20.toNat, v39.toNat]

def k1_chk1 (i : grid1.Coords) (v0 : BitVec 32) (v1 : BitVec 32) : Prop :=
  (∀ a, (k1_off1 i v0 v1) a + S1x728x1408.size a ≤ S3x2160x3840.size a) ∧
  (∀ (k1_h1 : k1_cond1 i = 1#1), ∀ a, (k1_off2 v0 v1) a + S1x728x1408.size a ≤ S1x2160x3840.size a)
theorem k1_off1_inb : ∀ (i : grid1.Coords) (v0 : BitVec 32) (v1 : BitVec 32) (k1_hw1 : k1_chk1 i v0 v1), ∀ a, (k1_off1 i v0 v1) a + S1x728x1408.size a ≤ S3x2160x3840.size a := fun i v0 v1 k1_hw1 => k1_hw1.1
theorem k1_off2_inb : ∀ (i : grid1.Coords) (v0 : BitVec 32) (v1 : BitVec 32) (k1_hw1 : k1_chk1 i v0 v1), ∀ (k1_h1 : k1_cond1 i = 1#1), ∀ a, (k1_off2 v0 v1) a + S1x728x1408.size a ≤ S1x2160x3840.size a := fun i v0 v1 k1_hw1 k1_h1 => k1_hw1.2 k1_h1

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1x720x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x720x1280 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]
-- ==== ReferenceIdeal.lean ====
abbrev S3x2160x3840 : Shape := ⟨3, ![3, 2160, 3840]⟩
abbrev S1x2160x3840 : Shape := ⟨3, ![1, 2160, 3840]⟩
abbrev S20 : Shape := ⟨1, ![20]⟩
abbrev S_ : Shape := ⟨0, ![]⟩
abbrev S3x720x1280 : Shape := ⟨3, ![3, 720, 1280]⟩
abbrev S1x720x1280 : Shape := ⟨3, ![1, 720, 1280]⟩
abbrev S921600 : Shape := ⟨1, ![921600]⟩
abbrev S921600x1 : Shape := ⟨2, ![921600, 1]⟩
abbrev S1 : Shape := ⟨1, ![1]⟩

abbrev nBuf : Space → Nat
  | .hbm => 207
  | .vmem => 0
  | .smem => 0
  | _ => 0

abbrev hbmTy0_0 (i : Nat) : BufTy := match i % 128 with
  | 0 => ⟨S3x2160x3840, .f32⟩
  | 1 => ⟨S1x2160x3840, .i32⟩
  | 2 => ⟨S20, .f32⟩
  | 3 => ⟨S_, .i32⟩
  | 4 => ⟨S_, .i32⟩
  | 5 => ⟨S_, .i32⟩
  | 6 => ⟨S3x720x1280, .f32⟩
  | 7 => ⟨S_, .i32⟩
  | 8 => ⟨S_, .i32⟩
  | 9 => ⟨S_, .i32⟩
  | 10 => ⟨S1x720x1280, .i32⟩
  | 11 => ⟨S921600, .i32⟩
  | 12 => ⟨S_, .i32⟩
  | 13 => ⟨S20, .i32⟩
  | 14 => ⟨S_, .i32⟩
  | 15 => ⟨S_, .i32⟩
  | 16 => ⟨S921600, .i32⟩
  | 17 => ⟨S921600, .i32⟩
  | 18 => ⟨S_, .i32⟩
  | 19 => ⟨S921600, .i32⟩
  | 20 => ⟨S921600, .i1⟩
  | 21 => ⟨S_, .i32⟩
  | 22 => ⟨S921600, .i32⟩
  | 23 => ⟨S921600, .i32⟩
  | 24 => ⟨S921600, .i32⟩
  | 25 => ⟨S921600x1, .i32⟩
  | 26 => ⟨S_, .i32⟩
  | 27 => ⟨S921600, .i32⟩
  | 28 => ⟨S20, .i32⟩
  | 29 => ⟨S20, .f32⟩
  | 30 => ⟨S_, .i32⟩
  | 31 => ⟨S1, .i32⟩
  | 32 => ⟨S_, .f32⟩
  | 33 => ⟨S20, .f32⟩
  | 34 => ⟨S20, .f32⟩
  | 35 => ⟨S_, .f32⟩
  | 36 => ⟨S_, .f32⟩
  | 37 => ⟨S_, .f32⟩
  | 38 => ⟨S_, .f32⟩
  | 39 => ⟨S20, .f32⟩
  | 40 => ⟨S20, .f32⟩
  | 41 => ⟨S20, .f32⟩
  | 42 => ⟨S_, .f32⟩
  | 43 => ⟨S_, .f32⟩
  | 44 => ⟨S_, .f32⟩
  | 45 => ⟨S_, .f32⟩
  | 46 => ⟨S20, .f32⟩
  | 47 => ⟨S20, .f32⟩
  | 48 => ⟨S20, .f32⟩
  | 49 => ⟨S_, .f32⟩
  | 50 => ⟨S_, .f32⟩
  | 51 => ⟨S_, .i32⟩
  | 52 => ⟨S_, .i32⟩
  | 53 => ⟨S_, .i32⟩
  | 54 => ⟨S3x720x1280, .f32⟩
  | 55 => ⟨S_, .i32⟩
  | 56 => ⟨S_, .i32⟩
  | 57 => ⟨S_, .i32⟩
  | 58 => ⟨S1x720x1280, .i32⟩
  | 59 => ⟨S921600, .i32⟩
  | 60 => ⟨S_, .i32⟩
  | 61 => ⟨S20, .i32⟩
  | 62 => ⟨S_, .i32⟩
  | 63 => ⟨S_, .i32⟩
  | 64 => ⟨S921600, .i32⟩
  | 65 => ⟨S921600, .i32⟩
  | 66 => ⟨S_, .i32⟩
  | 67 => ⟨S921600, .i32⟩
  | 68 => ⟨S921600, .i1⟩
  | 69 => ⟨S_, .i32⟩
  | 70 => ⟨S921600, .i32⟩
  | 71 => ⟨S921600, .i32⟩
  | 72 => ⟨S921600, .i32⟩
  | 73 => ⟨S921600x1, .i32⟩
  | 74 => ⟨S_, .i32⟩
  | 75 => ⟨S921600, .i32⟩
  | 76 => ⟨S20, .i32⟩
  | 77 => ⟨S20, .f32⟩
  | 78 => ⟨S_, .i32⟩
  | 79 => ⟨S1, .i32⟩
  | 80 => ⟨S_, .f32⟩
  | 81 => ⟨S20, .f32⟩
  | 82 => ⟨S20, .f32⟩
  | 83 => ⟨S_, .f32⟩
  | 84 => ⟨S_, .f32⟩
  | 85 => ⟨S_, .f32⟩
  | 86 => ⟨S_, .f32⟩
  | 87 => ⟨S20, .f32⟩
  | 88 => ⟨S20, .f32⟩
  | 89 => ⟨S20, .f32⟩
  | 90 => ⟨S_, .f32⟩
  | 91 => ⟨S_, .f32⟩
  | 92 => ⟨S_, .f32⟩
  | 93 => ⟨S_, .f32⟩
  | 94 => ⟨S20, .f32⟩
  | 95 => ⟨S20, .f32⟩
  | 96 => ⟨S20, .f32⟩
  | 97 => ⟨S_, .f32⟩
  | 98 => ⟨S_, .f32⟩
  | 99 => ⟨S_, .i1⟩
  | 100 => ⟨S3x720x1280, .f32⟩
  | 101 => ⟨S1x720x1280, .i32⟩
  | 102 => ⟨S_, .f32⟩
  | 103 => ⟨S_, .i32⟩
  | 104 => ⟨S_, .i32⟩
  | 105 => ⟨S_, .i32⟩
  | 106 => ⟨S3x720x1280, .f32⟩
  | 107 => ⟨S_, .i32⟩
  | 108 => ⟨S_, .i32⟩
  | 109 => ⟨S_, .i32⟩
  | 110 => ⟨S1x720x1280, .i32⟩
  | 111 => ⟨S921600, .i32⟩
  | 112 => ⟨S_, .i32⟩
  | 113 => ⟨S20, .i32⟩
  | 114 => ⟨S_, .i32⟩
  | 115 => ⟨S_, .i32⟩
  | 116 => ⟨S921600, .i32⟩
  | 117 => ⟨S921600, .i32⟩
  | 118 => ⟨S_, .i32⟩
  | 119 => ⟨S921600, .i32⟩
  | 120 => ⟨S921600, .i1⟩
  | 121 => ⟨S_, .i32⟩
  | 122 => ⟨S921600, .i32⟩
  | 123 => ⟨S921600, .i32⟩
  | 124 => ⟨S921600, .i32⟩
  | 125 => ⟨S921600x1, .i32⟩
  | 126 => ⟨S_, .i32⟩
  | 127 => ⟨S921600, .i32⟩
  | _ => ⟨S3x2160x3840, .f32⟩

abbrev hbmTy0_1 (i : Nat) : BufTy := match i % 128 with
  | 0 => ⟨S20, .i32⟩
  | 1 => ⟨S20, .f32⟩
  | 2 => ⟨S_, .i32⟩
  | 3 => ⟨S1, .i32⟩
  | 4 => ⟨S_, .f32⟩
  | 5 => ⟨S20, .f32⟩
  | 6 => ⟨S20, .f32⟩
  | 7 => ⟨S_, .f32⟩
  | 8 => ⟨S_, .f32⟩
  | 9 => ⟨S_, .f32⟩
  | 10 => ⟨S_, .f32⟩
  | 11 => ⟨S20, .f32⟩
  | 12 => ⟨S20, .f32⟩
  | 13 => ⟨S20, .f32⟩
  | 14 => ⟨S_, .f32⟩
  | 15 => ⟨S_, .f32⟩
  | 16 => ⟨S_, .f32⟩
  | 17 => ⟨S_, .f32⟩
  | 18 => ⟨S20, .f32⟩
  | 19 => ⟨S20, .f32⟩
  | 20 => ⟨S20, .f32⟩
  | 21 => ⟨S_, .f32⟩
  | 22 => ⟨S_, .f32⟩
  | 23 => ⟨S_, .i1⟩
  | 24 => ⟨S3x720x1280, .f32⟩
  | 25 => ⟨S1x720x1280, .i32⟩
  | 26 => ⟨S_, .f32⟩
  | 27 => ⟨S_, .i32⟩
  | 28 => ⟨S_, .i32⟩
  | 29 => ⟨S_, .i32⟩
  | 30 => ⟨S3x720x1280, .f32⟩
  | 31 => ⟨S_, .i32⟩
  | 32 => ⟨S_, .i32⟩
  | 33 => ⟨S_, .i32⟩
  | 34 => ⟨S1x720x1280, .i32⟩
  | 35 => ⟨S921600, .i32⟩
  | 36 => ⟨S_, .i32⟩
  | 37 => ⟨S20, .i32⟩
  | 38 => ⟨S_, .i32⟩
  | 39 => ⟨S_, .i32⟩
  | 40 => ⟨S921600, .i32⟩
  | 41 => ⟨S921600, .i32⟩
  | 42 => ⟨S_, .i32⟩
  | 43 => ⟨S921600, .i32⟩
  | 44 => ⟨S921600, .i1⟩
  | 45 => ⟨S_, .i32⟩
  | 46 => ⟨S921600, .i32⟩
  | 47 => ⟨S921600, .i32⟩
  | 48 => ⟨S921600, .i32⟩
  | 49 => ⟨S921600x1, .i32⟩
  | 50 => ⟨S_, .i32⟩
  | 51 => ⟨S921600, .i32⟩
  | 52 => ⟨S20, .i32⟩
  | 53 => ⟨S20, .f32⟩
  | 54 => ⟨S_, .i32⟩
  | 55 => ⟨S1, .i32⟩
  | 56 => ⟨S_, .f32⟩
  | 57 => ⟨S20, .f32⟩
  | 58 => ⟨S20, .f32⟩
  | 59 => ⟨S_, .f32⟩
  | 60 => ⟨S_, .f32⟩
  | 61 => ⟨S_, .f32⟩
  | 62 => ⟨S_, .f32⟩
  | 63 => ⟨S20, .f32⟩
  | 64 => ⟨S20, .f32⟩
  | 65 => ⟨S20, .f32⟩
  | 66 => ⟨S_, .f32⟩
  | 67 => ⟨S_, .f32⟩
  | 68 => ⟨S_, .f32⟩
  | 69 => ⟨S_, .f32⟩
  | 70 => ⟨S20, .f32⟩
  | 71 => ⟨S20, .f32⟩
  | 72 => ⟨S20, .f32⟩
  | 73 => ⟨S_, .f32⟩
  | 74 => ⟨S_, .f32⟩
  | 75 => ⟨S_, .i1⟩
  | 76 => ⟨S3x720x1280, .f32⟩
  | 77 => ⟨S1x720x1280, .i32⟩
  | 78 => ⟨S_, .f32⟩
  | _ => ⟨S3x2160x3840, .f32⟩

abbrev hbmTy (i : Nat) : BufTy := match i / 128 with
  | 0 => hbmTy0_0 i
  | 1 => hbmTy0_1 i
  | _ => ⟨S3x2160x3840, .f32⟩

abbrev bufTy : (tb : Table) → Fin (tcTables nBuf tb) → BufTy
  | .hbm, ⟨i, _⟩ => hbmTy i
  | _, _ => ⟨S3x2160x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_c_5 : Ref sig .tc := ⟨.hbm, 12, rfl⟩
abbrev main_v3 : Ref sig .tc := ⟨.hbm, 13, rfl⟩
abbrev main_c_6 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_c_7 : Ref sig .tc := ⟨.hbm, 18, rfl⟩
abbrev main_v5 : Ref sig .tc := ⟨.hbm, 19, rfl⟩
abbrev main_v6 : Ref sig .tc := ⟨.hbm, 20, rfl⟩
abbrev main_c_8 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_9 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_10 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_11 : Ref sig .tc := ⟨.hbm, 35, rfl⟩
abbrev main_v17 : Ref sig .tc := ⟨.hbm, 36, rfl⟩
abbrev main_cst_12 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_13 : Ref sig .tc := ⟨.hbm, 42, rfl⟩
abbrev main_v22 : Ref sig .tc := ⟨.hbm, 43, rfl⟩
abbrev main_cst_14 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_15 : Ref sig .tc := ⟨.hbm, 49, rfl⟩
abbrev main_v27 : Ref sig .tc := ⟨.hbm, 50, rfl⟩
abbrev main_c_16 : Ref sig .tc := ⟨.hbm, 51, rfl⟩
abbrev main_c_17 : Ref sig .tc := ⟨.hbm, 52, rfl⟩
abbrev main_c_18 : Ref sig .tc := ⟨.hbm, 53, rfl⟩
abbrev main_v28 : Ref sig .tc := ⟨.hbm, 54, rfl⟩
abbrev main_c_19 : Ref sig .tc := ⟨.hbm, 55, rfl⟩
abbrev main_c_20 : Ref sig .tc := ⟨.hbm, 56, rfl⟩
abbrev main_c_21 : Ref sig .tc := ⟨.hbm, 57, rfl⟩
abbrev main_v29 : Ref sig .tc := ⟨.hbm, 58, rfl⟩
abbrev main_v30 : Ref sig .tc := ⟨.hbm, 59, rfl⟩
abbrev main_c_22 : Ref sig .tc := ⟨.hbm, 60, rfl⟩
abbrev main_v31 : Ref sig .tc := ⟨.hbm, 61, rfl⟩
abbrev main_c_23 : Ref sig .tc := ⟨.hbm, 62, rfl⟩
abbrev main_call1_v0 : Ref sig .tc := ⟨.hbm, 63, rfl⟩
abbrev main_call1_v1 : Ref sig .tc := ⟨.hbm, 64, rfl⟩
abbrev main_v32 : Ref sig .tc := ⟨.hbm, 65, rfl⟩
abbrev main_c_24 : Ref sig .tc := ⟨.hbm, 66, rfl⟩
abbrev main_v33 : Ref sig .tc := ⟨.hbm, 67, rfl⟩
abbrev main_v34 : Ref sig .tc := ⟨.hbm, 68, rfl⟩
abbrev main_c_25 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_26 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_27 : Ref sig .tc := ⟨.hbm, 78, rfl⟩
abbrev main_v42 : Ref sig .tc := ⟨.hbm, 79, rfl⟩
abbrev main_cst_28 : Ref sig .tc := ⟨.hbm, 80, rfl⟩
abbrev main_v43 : Ref sig .tc := ⟨.hbm, 81, rfl⟩
abbrev main_v44 : Ref sig .tc := ⟨.hbm, 82, rfl⟩
abbrev main_cst_29 : Ref sig .tc := ⟨.hbm, 83, rfl⟩
abbrev main_v45 : Ref sig .tc := ⟨.hbm, 84, rfl⟩
abbrev main_cst_30 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_31 : Ref sig .tc := ⟨.hbm, 90, rfl⟩
abbrev main_v50 : Ref sig .tc := ⟨.hbm, 91, rfl⟩
abbrev main_cst_32 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_33 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_34 : Ref sig .tc := ⟨.hbm, 103, rfl⟩
abbrev main_c_35 : Ref sig .tc := ⟨.hbm, 104, rfl⟩
abbrev main_c_36 : Ref sig .tc := ⟨.hbm, 105, rfl⟩
abbrev main_v60 : Ref sig .tc := ⟨.hbm, 106, rfl⟩
abbrev main_c_37 : Ref sig .tc := ⟨.hbm, 107, rfl⟩
abbrev main_c_38 : Ref sig .tc := ⟨.hbm, 108, rfl⟩
abbrev main_c_39 : Ref sig .tc := ⟨.hbm, 109, rfl⟩
abbrev main_v61 : Ref sig .tc := ⟨.hbm, 110, rfl⟩
abbrev main_v62 : Ref sig .tc := ⟨.hbm, 111, rfl⟩
abbrev main_c_40 : Ref sig .tc := ⟨.hbm, 112, rfl⟩
abbrev main_v63 : Ref sig .tc := ⟨.hbm, 113, rfl⟩
abbrev main_c_41 : Ref sig .tc := ⟨.hbm, 114, rfl⟩
abbrev main_call5_v0 : Ref sig .tc := ⟨.hbm, 115, rfl⟩
abbrev main_call5_v1 : Ref sig .tc := ⟨.hbm, 116, rfl⟩
abbrev main_v64 : Ref sig .tc := ⟨.hbm, 117, rfl⟩
abbrev main_c_42 : Ref sig .tc := ⟨.hbm, 118, rfl⟩
abbrev main_v65 : Ref sig .tc := ⟨.hbm, 119, rfl⟩
abbrev main_v66 : Ref sig .tc := ⟨.hbm, 120, rfl⟩
abbrev main_c_43 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_44 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_c_45 : Ref sig .tc := ⟨.hbm, 130, rfl⟩
abbrev main_v74 : Ref sig .tc := ⟨.hbm, 131, rfl⟩
abbrev main_cst_46 : Ref sig .tc := ⟨.hbm, 132, rfl⟩
abbrev main_v75 : Ref sig .tc := ⟨.hbm, 133, rfl⟩
abbrev main_v76 : Ref sig .tc := ⟨.hbm, 134, rfl⟩
abbrev main_cst_47 : Ref sig .tc := ⟨.hbm, 135, rfl⟩
abbrev main_v77 : Ref sig .tc := ⟨.hbm, 136, rfl⟩
abbrev main_cst_48 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_49 : Ref sig .tc := ⟨.hbm, 142, rfl⟩
abbrev main_v82 : Ref sig .tc := ⟨.hbm, 143, rfl⟩
abbrev main_cst_50 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_51 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_c_52 : Ref sig .tc := ⟨.hbm, 155, rfl⟩
abbrev main_c_53 : Ref sig .tc := ⟨.hbm, 156, rfl⟩
abbrev main_c_54 : Ref sig .tc := ⟨.hbm, 157, rfl⟩
abbrev main_v92 : Ref sig .tc := ⟨.hbm, 158, rfl⟩
abbrev main_c_55 : Ref sig .tc := ⟨.hbm, 159, rfl⟩
abbrev main_c_56 : Ref sig .tc := ⟨.hbm, 160, rfl⟩
abbrev main_c_57 : Ref sig .tc := ⟨.hbm, 161, rfl⟩
abbrev main_v93 : Ref sig .tc := ⟨.hbm, 162, rfl⟩
abbrev main_v94 : Ref sig .tc := ⟨.hbm, 163, rfl⟩
abbrev main_c_58 : Ref sig .tc := ⟨.hbm, 164, rfl⟩
abbrev main_v95 : Ref sig .tc := ⟨.hbm, 165, rfl⟩
abbrev main_c_59 : Ref sig .tc := ⟨.hbm, 166, rfl⟩
abbrev main_call9_v0 : Ref sig .tc := ⟨.hbm, 167, rfl⟩
abbrev main_call9_v1 : Ref sig .tc := ⟨.hbm, 168, rfl⟩
abbrev main_v96 : Ref sig .tc := ⟨.hbm, 169, rfl⟩
abbrev main_c_60 : Ref sig .tc := ⟨.hbm, 170, rfl⟩
abbrev main_v97 : Ref sig .tc := ⟨.hbm, 171, rfl⟩
abbrev main_v98 : Ref sig .tc := ⟨.hbm, 172, rfl⟩
abbrev main_c_61 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_c_62 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_c_63 : Ref sig .tc := ⟨.hbm, 182, rfl⟩
abbrev main_v106 : Ref sig .tc := ⟨.hbm, 183, rfl⟩
abbrev main_cst_64 : Ref sig .tc := ⟨.hbm, 184, rfl⟩
abbrev main_v107 : Ref sig .tc := ⟨.hbm, 185, rfl⟩
abbrev main_v108 : Ref sig .tc := ⟨.hbm, 186, rfl⟩
abbrev main_cst_65 : Ref sig .tc := ⟨.hbm, 187, rfl⟩
abbrev main_v109 : Ref sig .tc := ⟨.hbm, 188, rfl⟩
abbrev main_cst_66 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_cst_67 : Ref sig .tc := ⟨.hbm, 194, rfl⟩
abbrev main_v114 : Ref sig .tc := ⟨.hbm, 195, rfl⟩
abbrev main_cst_68 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_cst_69 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩

abbrev nD : Nat := 1
abbrev τ : Topo := Topo.v7x

variable {F : FTy → Type} [FloatOps F]
-- ==== Proof.Transfer.lean ====
module

public import proofs.«01_k».proof.Defs
public import proofs.«01_k».proof.Proof.Gen.Kernel
public import proofs.«01_k».proof.Proof.Gen.KernelIdeal
public import Idealize.ShloMosaic.Lib.Tactic

/-! The kernel's program and its idealized print are the same text. So what is shown of the first at
    every instance of the float values also speaks of the second, at the extended reals. -/

@[expose] public section
noncomputable section
namespace Cert.Proof
open Idealize.ShloMosaic Idealize.SL.Sem Idealize.ShloMosaic.Tactic

/-- The frame claim of the kernel at float values `F`. -/
def KernelQuiet (F : FTy → Type) [FloatOps F] : Prop :=
  ∀ (m : (ℓ : Loc Cert.Kernel.nD Cert.Kernel.τ Cert.Kernel.sig) → Buf (Elt F) ℓ) (g : Dev Cert.Kernel.nD → PrngReg), True →
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

set_option maxHeartbeats 1000000 in
/-- At the extended reals it is the idealized kernel's claim. -/
theorem quiet_ideal : KernelQuiet Ideal = Cert.quiescent_KernelIdeal := by sl_kernel_rfl

end Cert.Proof
end
-- ==== Proof.HistRun.lean ====
/- The counting call's body, run once on its buffers: what its stores leave in the block of counts.
   The call has one grid point. It copies the four windows of the label map into two buffers, one
   window ahead, and stores one row of counts per window. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The label map, left in HBM. -/
abbrev labM : Memref sig .tc .hbm S1x2160x3840 .i32 := Memref.whole main_arg1
/-- The two window buffers. -/
abbrev bufM0 : Memref sig .tc .vmem S728x1408 .i32 := Memref.whole cc0_scratch0
abbrev bufM1 : Memref sig .tc .vmem S728x1408 .i32 := Memref.whole cc0_scratch1
/-- The label map's contents on core `c`, and the map held whole at them. -/
abbrev LabBuf (c : Dev nD) : Type := Buf (Elt F) (labM.view.loc (c : Thread nD τ))
abbrev labPt (c : Dev nD) (f : LabBuf (F := F) c) : sProp 𝕄 := labM.view.loc (c : Thread nD τ) ↦{fullShare} f

set_option maxHeartbeats 1000000 in
/-- The body run on whole buffers: the pieces it leaves in the block of counts and in the two window buffers are
    found by the run; the label map and the semaphores end as they were. -/
noncomputable def run (c : Dev nD) (arg1 : Memref sig .tc .vmem S4x1x128 .i32) (harg1 : arg1.IsWhole) (arg2 : Memref sig .tc .vmem S728x1408 .i32) (harg2 : arg2.IsWhole) (arg3 : Memref sig .tc .vmem S728x1408 .i32) (harg3 : arg3.IsWhole)
     (fh : LabBuf (F := F) c) :
    Σ' (L0 : List (View.Piece (Elt F) S4x1x128 .i32)), Σ' (LT0 : List (View.Piece (Elt F) S728x1408 .i32)), { LT1 : List (View.Piece (Elt F) S728x1408 .i32) //
      ∀ (W : Waits sig Unit) (K : PUnit → sProp 𝕄),
        iprop((∃ d, owns (c : Thread nD τ) arg1 fullShare d) ∗ (∃ d, owns (c : Thread nD τ) arg2 fullShare d) ∗ (∃ d, owns (c : Thread nD τ) arg3 fullShare d) ∗ semVal ((c : Thread nD τ), SemLoc.dma 1) 0 ∗ semVal ((c : Thread nD τ), SemLoc.dma 2) 0 ∗ labPt c fh ∗ owes (c : Thread nD τ) 0 W
            ∗ (iprop((∃ f, arg1.view.loc (c : Thread nD τ) ↦[arg1.view.set]{fullShare} arg1.view.writes (Elt F) f L0) ∗ (∃ f, arg2.view.loc (c : Thread nD τ) ↦[arg2.view.set]{fullShare} arg2.view.writes (Elt F) f LT0) ∗ (∃ f, arg3.view.loc (c : Thread nD τ) ↦[arg3.view.set]{fullShare} arg3.view.writes (Elt F) f LT1) ∗ semVal ((c : Thread nD τ), SemLoc.dma 1) 0 ∗ semVal ((c : Thread nD τ), SemLoc.dma 2) 0 ∗ labPt c fh ∗ (∃ W', owes (c : Thread nD τ) 0 W')) -∗ K ⟨⟩))
          ⊢ wp frame (wpE (defs₀ (F := F)) Variants.none c none) Set.univ (cc0__hist_kernel (Memref.whole main_arg1) (Memref.isWhole_whole _) arg1 harg1 arg2 harg2 arg3 harg3 cc0_scratch2 cc0_scratch3) K } := by
  refine ⟨?_, ?_, ?_, fun W K => ?run⟩
  case run =>
    simp only [cc0__hist_kernel_eq_skeleton]; unfold cc0__hist_kernel_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%d0, %f0, -, H0⟩, ⟨%ds0, %fs0, -, HS0⟩, ⟨%ds1, %fs1, -, HS1⟩, Hq0, Hq1, Hh, HW, Hk⟩
    sl_exec
    sl_step
    iapply Hk
    isplitl [H0]; · iexists _; iexact H0
    isplitl [HS0]; · iexists _; iexact HS0
    isplitl [HS1]; · iexists _; iexact HS1
    isplitl [Hq0]; · iexact Hq0
    isplitl [Hq1]; · iexact Hq1
    isplitl [Hh]; · iexact Hh
    iexists _; iexact HW

/-- The four stored rows tile the block. -/
theorem cover (c : Dev nD) (arg1 : Memref sig .tc .vmem S4x1x128 .i32) (harg1 : arg1.IsWhole) (arg2 : Memref sig .tc .vmem S728x1408 .i32) (harg2 : arg2.IsWhole) (arg3 : Memref sig .tc .vmem S728x1408 .i32) (harg3 : arg3.IsWhole)
     (fh : LabBuf (F := F) c) (y : S4x1x128.Idx) :
    ∃ pc ∈ (run c arg1 harg1 arg2 harg2 arg3 harg3 fh).1, y ∈ pc.1.set :=
  View.cover_of_tiledL (run c arg1 harg1 arg2 harg2 arg3 harg3 fh).1 S1x1x128.size (by sl_kernel_rfl) y

end Cert.Kernel.Hist
end
-- ==== Proof.HistRegion.lean ====
/- The counting call as a region of the program: its proof data, what its block holds after its one
   point, and the body's obligation. -/
module

public import proofs.«01_k».proof.Proof.HistRun

@[expose] public section

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The call's own semaphores, and the operand it reads in place -/

/-- The two DMA semaphores of the body's copies. -/
abbrev osem : Fin 2 → SemLoc sig := fun j => (![SemLoc.dma 1, SemLoc.dma 2] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 1) 0 ∗ semVal ((c : Thread nD τ), SemLoc.dma 2) 0) := by
  rw [Pipeline.ownSems0_eq_of_list c osem [0, 1] (by decide) (by decide)]; rfl
/-- The label map. -/
def H : Finset (Ref sig .tc) := {main_arg1}

variable (W : Dev nD → Valuation τ sig (Elt F))

/-- The buffers of core `c` as the call finds them. -/
abbrev V (c : Dev nD) (b : Ref sig .tc) : Buf (Elt F) ((c : Thread nD τ).loc b) := W c (Proc.devRef .tc b)

theorem pts_eq (c : Dev nD) :
    (bigSep H (fun b => ((c : Thread nD τ).loc b) ↦{fullShare} V W c b) : sProp 𝕄) = iprop(labPt c (V W c main_arg1)) := by
  rw [BI.bigSep_eq_bigSepL_of_eq [main_arg1] (by decide) (by decide)]; rfl

/-- The call's invariant, conjunct by conjunct: its two window buffers and the rest of the scoped memory at some
    contents, the generator register, its semaphores at zero, the label map unchanged. -/
theorem inv_eq (c : Dev nD) :
    (Pipeline.ΦD osem spec0 H (V W) c : sProp 𝕄)
      = iprop(iprop((∃ d, owns (c : Thread nD τ) bufM0 fullShare d) ∗ (∃ d, owns (c : Thread nD τ) bufM1 fullShare d)
          ∗ (∃ d, owns (c : Thread nD τ) (Memref.whole cc1_stg0_0) fullShare d) ∗ (∃ d, owns (c : Thread nD τ) (Memref.whole cc1_stg0_1) fullShare d)
          ∗ (∃ d, owns (c : Thread nD τ) (Memref.whole cc1_stg1_0) fullShare d)
          ∗ (∃ d, owns (c : Thread nD τ) (Memref.whole cc1_scratch0) fullShare d) ∗ (∃ d, owns (c : Thread nD τ) (Memref.whole cc1_scratch1) fullShare d))
        ∗ (∃ r, prngReg c r) ∗ iprop(semVal ((c : Thread nD τ), SemLoc.dma 1) 0 ∗ semVal ((c : Thread nD τ), SemLoc.dma 2) 0)
        ∗ iprop(labPt c (V W c main_arg1))) := by
  rw [Pipeline.ΦD_eq, scopedRest0_eq, ownSems_eq, pts_eq]; simp only [bufM0, bufM1, owns_whole]; try rfl

/-! ## The block of counts after the point -/

/-- A buffer through which the block is read. -/
abbrev VO : View sig .tc .vmem S4x1x128 .i32 := (Memref.whole cc0_stg0_0 : Memref sig .tc .vmem S4x1x128 .i32).view
/-- The block's staging memref at a point. -/
abbrev stg (t : Fin cfg0.N) : Memref sig .tc .vmem S4x1x128 .i32 := win0_0.stage (cfg0.slots t 0)
/-- What the body leaves in the block: its stored rows, read back. -/
def out (c : Dev nD) (t : Fin cfg0.N) : Vec F S4x1x128 .i32 :=
  VO.read (Elt F) (VO.writes (Elt F) VO.junk (run c (stg t) (hstage0_0 0) bufM0 (Memref.isWhole_whole _) bufM1 (Memref.isWhole_whole _) (V W c main_arg1)).1)

/-- The call's proof data. -/
def dat (c : Dev nD) : Dat τ (Elt F) Unit ℕ (Pipeline.UD sig nD τ) ℕ cfg0 c where
  A w := V W c (Pipeline.arrRef spec0 w)
  after w t := match w with
    | ⟨0, _⟩ => out W c t
  Φ _ := Pipeline.ΦD osem spec0 H (V W) c
  q _ := fullShare
  owed _ := 0

theorem dat_A (c : Dev nD) (w : Fin cfg0.W) : (dat W c).A w = V W c (Pipeline.arrRef spec0 w) := by
  dsimp only [dat]
theorem dat_after (c : Dev nD) (t : Fin cfg0.N) : (dat W c).after 0 t = out W c t := by dsimp only [dat]

/-! ## The body's obligation -/

/-- What the body is called with, -/
def bodyPre (c : Dev nD) (t : Fin cfg0.N) : sProp 𝕄 :=
  iprop((dat W c).Φ t.castSucc ∗ (dat W c).owesAt () t.castSucc
    ∗ (∃ d, owns (c : Thread nD τ) (stg t) fullShare ((dat W c).before 0 t d)))
/-- and what it returns. -/
def bodyPost (c : Dev nD) (t : Fin cfg0.N) : sProp 𝕄 :=
  iprop((dat W c).Φ t.succ ∗ (dat W c).owesAt () t.succ
    ∗ owns (c : Thread nD τ) (stg t) fullShare ((dat W c).after 0 t))

theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  rw [show (dat W c).Φ t.succ = (dat W c).Φ t.castSucc from rfl, dat_after]
  rw [show (dat W c).Φ t.castSucc = Pipeline.ΦD osem spec0 H (V W) c from rfl, inv_eq]
  unfold Dat.owesAt Pipeline.owesWithin
  rw [show (dat W c).owed t.castSucc = 0 from rfl, show (dat W c).owed t.succ = 0 from rfl]
  unfold out
  iintro ⟨⟨⟨HS0, HS1, HR⟩, Hg, ⟨Hq0, Hq1⟩, Hh⟩, ⟨%Wd, -, HW⟩, ⟨%d0, H0⟩⟩
  iapply ((run c _ _ _ _ _ _ (V W c main_arg1)).2.2.2 Wd _)
  isplitl [H0]; · iexists _; iexact H0
  isplitl [HS0]; · iexact HS0
  isplitl [HS1]; · iexact HS1
  isplitl [Hq0]; · iexact Hq0
  isplitl [Hq1]; · iexact Hq1
  isplitl [Hh]; · iexact Hh
  isplitl [HW]; · iexact HW
  iintro ⟨⟨%e0, H0⟩, ⟨%fT0, HS0⟩, ⟨%fT1, HS1⟩, Hq0, Hq1, Hh, ⟨%W', HW'⟩⟩
  isplitl [HS0 HS1 HR Hg Hq0 Hq1 Hh]
  · isplitl [HS0 HS1 HR]
    · isplitl [HS0]
      · iexists _; unfold owns; iexists _; isplitr
        swap; · iexact HS0
        ipureintro; rfl
      isplitl [HS1]
      · iexists _; unfold owns; iexists _; isplitr
        swap; · iexact HS1
        ipureintro; rfl
      iexact HR
    isplitl [Hg]
    · iexact Hg
    isplitl [Hq0 Hq1]
    · isplitl [Hq0]; · iexact Hq0
      iexact Hq1
    iexact Hh
  isplitl [HW']
  · iexists W'; isplitr; · ipureintro; exact fun _ _ => Or.inl trivial
    iexact HW'
  unfold owns; iexists _; isplitr
  swap; · iexact H0
  ipureintro; exact View.read_writes_of_cover _ _ _ _ _ (cover c _ _ _ _ _ _ _)

theorem defs₀_row (t : Fin cfg0.N) :
    defs₀ (F := F) .tc cfg0.body (cfg0.bodyArgs t (cfg0.slots t)) = bodyAt0 t := by
  unfold defs₀; rw [Defs.onTc_tc]

/-- The body meets its obligation at the point. -/
theorem body_obligation (c : Dev nD) : BodyObligation (dat W c) (defs₀ (F := F)) Variants.none () Set.univ := fun t => by
  rw [bigSep_W0, bigSep_W0, defs₀_row]
  exact triple_restated (sound_body W c t) rfl .rfl fun _ => .rfl

end Cert.Kernel.Hist
end
-- ==== Proof.CropRun.lean ====
/- The cropping call's body, run on its buffers. The call has three grid points, one per channel of
   the image; the label block is cut at the first alone. The crop's corner is two words of a table. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Crop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table of the corner, and the image and the label map, left in HBM. -/
abbrev tabM : Memref sig .tc .smem S2 .i32 := Memref.whole main_v88
abbrev imgM : Memref sig .tc .hbm S3x2160x3840 .f32 := Memref.whole main_arg0
abbrev labM : Memref sig .tc .hbm S1x2160x3840 .i32 := Memref.whole main_arg1
/-- The two window buffers. -/
abbrev bufM0 : Memref sig .tc .vmem S728x1408 .f32 := Memref.whole cc1_scratch0
abbrev bufM1 : Memref sig .tc .vmem S728x1408 .i32 := Memref.whole cc1_scratch1
/-- Their contents on core `c`, and each held whole at them. -/
abbrev TabBuf (c : Dev nD) : Type := Buf (Elt F) (tabM.view.loc (c : Thread nD τ))
abbrev tabPt (c : Dev nD) (f : TabBuf (F := F) c) : sProp 𝕄 := tabM.view.loc (c : Thread nD τ) ↦{fullShare} f
abbrev ImgBuf (c : Dev nD) : Type := Buf (Elt F) (imgM.view.loc (c : Thread nD τ))
abbrev imgPt (c : Dev nD) (f : ImgBuf (F := F) c) : sProp 𝕄 := imgM.view.loc (c : Thread nD τ) ↦{fullShare} f
abbrev LabBuf (c : Dev nD) : Type := Buf (Elt F) (labM.view.loc (c : Thread nD τ))
abbrev labPt (c : Dev nD) (f : LabBuf (F := F) c) : sProp 𝕄 := labM.view.loc (c : Thread nD τ) ↦{fullShare} f

/-- The corner's row and column words, as the body reads them from the table. -/
abbrev topW {c : Dev nD} (xt : TabBuf (F := F) c) : Elt F .i32 :=
  tabM.view.readAt (Elt F) (Rect.unit (s := S2) ![0] S1.size inb_S2_S1_0).toLoadRect xt (Shape.Idx.first (numel1_S1.symm ▸ Nat.one_pos))
abbrev leftW {c : Dev nD} (xt : TabBuf (F := F) c) : Elt F .i32 :=
  tabM.view.readAt (Elt F) (Rect.unit (s := S2) ![1] S1.size inb_S2_S1_1).toLoadRect xt (Shape.Idx.first (numel1_S1.symm ▸ Nat.one_pos))

/-- The test of the body's branch: the first channel. -/
abbrev isFirst (i : grid1.Coords) : Prop := k1_cond1 i = 1#1
theorem isFirst_iff : ∀ t : Fin grid1.N, isFirst (grid1.coords t) ↔ t.val % 3 = 0 := fun t => by
  have ht : t.val < 3 := Nat.lt_of_lt_of_eq t.isLt N_1
  have e0 : (grid1.coords t 0).val = t.val / 1 % 3 := Pipeline.Grid.coords_val t 0 (by decide) rfl
  simp only [isFirst, k1_cond1, e0]
  word_cmp

set_option maxHeartbeats 1000000 in
/-- At the first channel: both blocks are stored. -/
noncomputable def runA (c : Dev nD) (i : grid1.Coords) (arg4 : Memref sig .tc .vmem S1x720x1280 .f32) (harg4 : arg4.IsWhole) (arg5 : Memref sig .tc .vmem S1x720x1280 .i32) (harg5 : arg5.IsWhole) (arg6 : Memref sig .tc .vmem S728x1408 .f32) (harg6 : arg6.IsWhole) (arg7 : Memref sig .tc .vmem S728x1408 .i32) (harg7 : arg7.IsWhole) (hc0 : isFirst i)
    (xt : TabBuf (F := F) c) (fi : ImgBuf (F := F) c) (fl : LabBuf (F := F) c) (hw : k1_chk1 i (topW xt) (leftW xt)) :
    Σ' (L0 : List (View.Piece (Elt F) S1x720x1280 .f32)), { L1 : List (View.Piece (Elt F) S1x720x1280 .i32) //
      ∀ (W : Waits sig Unit) (K : PUnit → sProp 𝕄),
        iprop((∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ tabPt c xt ∗ semVal ((c : Thread nD τ), SemLoc.dma 6) 0 ∗ semVal ((c : Thread nD τ), SemLoc.dma 7) 0 ∗ imgPt c fi ∗ labPt c fl ∗ owes (c : Thread nD τ) 0 W
            ∗ (iprop((∃ f, arg4.view.loc (c : Thread nD τ) ↦[arg4.view.set]{fullShare} arg4.view.writes (Elt F) f L0) ∗ (∃ f, arg5.view.loc (c : Thread nD τ) ↦[arg5.view.set]{fullShare} arg5.view.writes (Elt F) f L1) ∗ (∃ d, owns (c : Thread nD τ) arg6 fullShare d) ∗ (∃ d, owns (c : Thread nD τ) arg7 fullShare d) ∗ tabPt c xt ∗ semVal ((c : Thread nD τ), SemLoc.dma 6) 0 ∗ semVal ((c : Thread nD τ), SemLoc.dma 7) 0 ∗ imgPt c fi ∗ labPt c fl ∗ (∃ W', owes (c : Thread nD τ) 0 W')) -∗ K ⟨⟩))
          ⊢ wp frame (wpE (defs₀ (F := F)) Variants.none c none) Set.univ (cc1__extract_kernel i tabM (Memref.isWhole_whole _) (Memref.whole main_arg0) (Memref.isWhole_whole _) (Memref.whole main_arg1) (Memref.isWhole_whole _) arg4 harg4 arg5 harg5 arg6 harg6 arg7 harg7 cc1_scratch2 cc1_scratch3) K } := by
  refine ⟨?_, ?_, fun W K => ?run⟩
  case run =>
    simp only [cc1__extract_kernel_eq_skeleton]; unfold cc1__extract_kernel_skel
    simp only [k1_part1_eq_skeleton, k1_part2_eq_skeleton]
    unfold owns
    iintro ⟨⟨%d0, %f0, -, H0⟩, ⟨%d1, %f1, -, H1⟩, ⟨%ds0, %fs0, -, HS0⟩, ⟨%ds1, %fs1, -, HS1⟩, HT, Hq0, Hq1, Hi, Hl, HW, Hk⟩
    sl_exec (disch := first | sl_exact hc0 | sl_exact hw)
    sl_step
    iapply Hk
    isplitl [H0]; · iexists _; iexact H0
    isplitl [H1]; · iexists _; iexact H1
    isplitl [HS0]
    · iexists _, _; isplitr; swap; · iexact HS0
      ipureintro; rfl
    isplitl [HS1]
    · iexists _, _; isplitr; swap; · iexact HS1
      ipureintro; rfl
    isplitl [HT]; · iexact HT
    isplitl [Hq0]; · iexact Hq0
    isplitl [Hq1]; · iexact Hq1
    isplitl [Hi]; · iexact Hi
    isplitl [Hl]; · iexact Hl
    iexists _; iexact HW

set_option maxHeartbeats 1000000 in
/-- At the later channels: the image block is stored; the label block's buffer is not touched. -/
noncomputable def runB (c : Dev nD) (i : grid1.Coords) (arg4 : Memref sig .tc .vmem S1x720x1280 .f32) (harg4 : arg4.IsWhole) (arg5 : Memref sig .tc .vmem S1x720x1280 .i32) (harg5 : arg5.IsWhole) (arg6 : Memref sig .tc .vmem S728x1408 .f32) (harg6 : arg6.IsWhole) (arg7 : Memref sig .tc .vmem S728x1408 .i32) (harg7 : arg7.IsWhole) (hc0 : ¬ isFirst i)
    (xt : TabBuf (F := F) c) (fi : ImgBuf (F := F) c) (hw : k1_chk1 i (topW xt) (leftW xt)) :
    { L0 : List (View.Piece (Elt F) S1x720x1280 .f32) //
      ∀ (W : Waits sig Unit) (K : PUnit → sProp 𝕄),
        iprop((∃ d, owns (c : Thread nD τ) arg4 fullShare d) ∗ (∃ d, owns (c : Thread nD τ) arg6 fullShare d) ∗ tabPt c xt ∗ semVal ((c : Thread nD τ), SemLoc.dma 6) 0 ∗ imgPt c fi ∗ owes (c : Thread nD τ) 0 W
            ∗ (iprop((∃ f, arg4.view.loc (c : Thread nD τ) ↦[arg4.view.set]{fullShare} arg4.view.writes (Elt F) f L0) ∗ (∃ d, owns (c : Thread nD τ) arg6 fullShare d) ∗ tabPt c xt ∗ semVal ((c : Thread nD τ), SemLoc.dma 6) 0 ∗ imgPt c fi ∗ (∃ W', owes (c : Thread nD τ) 0 W')) -∗ K ⟨⟩))
          ⊢ wp frame (wpE (defs₀ (F := F)) Variants.none c none) Set.univ (cc1__extract_kernel i tabM (Memref.isWhole_whole _) (Memref.whole main_arg0) (Memref.isWhole_whole _) (Memref.whole main_arg1) (Memref.isWhole_whole _) arg4 harg4 arg5 harg5 arg6 harg6 arg7 harg7 cc1_scratch2 cc1_scratch3) K } := by
  refine ⟨?_, fun W K => ?run⟩
  case run =>
    simp only [cc1__extract_kernel_eq_skeleton]; unfold cc1__extract_kernel_skel
    simp only [k1_part1_eq_skeleton, k1_part2_eq_skeleton]
    unfold owns
    iintro ⟨⟨%d0, %f0, -, H0⟩, ⟨%ds0, %fs0, -, HS0⟩, HT, Hq0, Hi, HW, Hk⟩
    sl_exec (disch := first | sl_exact hc0 | sl_exact hw)
    sl_step
    iapply Hk
    isplitl [H0]; · iexists _; iexact H0
    isplitl [HS0]
    · iexists _, _; isplitr; swap; · iexact HS0
      ipureintro; rfl
    isplitl [HT]; · iexact HT
    isplitl [Hq0]; · iexact Hq0
    isplitl [Hi]; · iexact Hi
    iexists _; iexact HW

end Cert.Kernel.Crop
end
-- ==== Proof.CropRegion.lean ====
/- The cropping call as a region of the program: its proof data, what its blocks hold after each
   point, and the body's obligation at the three points. -/
module

public import proofs.«01_k».proof.Proof.CropRun
public import Idealize.ShloMosaic.Lib.Pipeline.TableIdle
public import Idealize.ShloMosaic.Lib.Pipeline.RegionArraysDT

@[expose] public section

set_option maxRecDepth 16384

noncomputable section

namespace Cert.Kernel.Crop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pipeline's schedule -/

/-- The image block is written back at every point, -/
theorem flush_img (a : (pcfg1 (F := F)).Adm) : ∀ t : Fin (cfg1 a).N, ((cfg1 a).win (0 : Fin 2)).flush t = true :=
  (fun t => (Pipeline.Window.flushOf_reads cc1_transform_2 reads1_0 hreads1_0 0 (by decide) (by decide) (Pipeline.Window.sep_of_coord cc1_transform_2 0 0 (fun _ => rfl) (by decide)) (P := 1) (m := 0) (by decide) rfl t).mpr (Nat.mod_one _) : ∀ t : Fin grid1.N, Pipeline.Window.flushOf grid1 true cc1_transform_2 t = true)
/-- the label block at the last point alone. -/
theorem flush_lab (a : (pcfg1 (F := F)).Adm) : ∀ t : Fin (cfg1 a).N, ((cfg1 a).win (1 : Fin 2)).flush t = true ↔ t.val % 3 = 2 :=
  (fun t => Pipeline.Window.flushOf_const cc1_transform_3 (fun _ _ => rfl) (n := 3) (by decide) rfl t : ∀ t : Fin grid1.N, Pipeline.Window.flushOf grid1 true cc1_transform_3 t = true ↔ t.val % 3 = 2)

variable (W : Dev nD → Valuation τ sig (Elt F)) (a : (pcfg1 (F := F)).Adm)

/-- The blocks' staging memrefs at a point. -/
abbrev stgI (t : Fin (cfg1 a).N) : Memref sig .tc .vmem S1x720x1280 .f32 := spec1_0.stage ((cfg1 a).slots t 0)
abbrev stgL (t : Fin (cfg1 a).N) : Memref sig .tc .vmem S1x720x1280 .i32 := spec1_1.stage ((cfg1 a).slots t 1)
theorem stgI_whole (t : Fin (cfg1 a).N) : (stgI a t).IsWhole := hstage1_0 (((cfg1 a).slots t 0).cast nbuf1_0)
theorem stgL_whole (t : Fin (cfg1 a).N) : (stgL a t).IsWhole := hstage1_1 (((cfg1 a).slots t 1).cast nbuf1_1)

/-- The body at a point, on what the pipeline calls it with. -/
abbrev bodyAt (t : Fin (cfg1 a).N) : Prog (TpuEff nD τ sig (Elt F) Λ₀ .tc) PUnit :=
  cc1__extract_kernel (grid1.coords t) tabM (Memref.isWhole_whole _) (Memref.whole main_arg0) (Memref.isWhole_whole _) (Memref.whole main_arg1) (Memref.isWhole_whole _)
    (stgI a t) (stgI_whole a t) (stgL a t) (stgL_whole a t) bufM0 (Memref.isWhole_whole _) bufM1 (Memref.isWhole_whole _) cc1_scratch2 cc1_scratch3

/-! ## The call's own semaphores, and the operands it reads in place -/

/-- The two DMA semaphores of the body's copies. -/
abbrev osem : Fin 2 → SemLoc sig := fun j => (![SemLoc.dma 6, SemLoc.dma 7] : Fin 2 → SemLoc sig) j
theorem ownSemFacts : Pipeline.OwnSemFacts spec1 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 6) 0 ∗ semVal ((c : Thread nD τ), SemLoc.dma 7) 0) := by
  rw [Pipeline.ownSems0_eq_of_list c osem [0, 1] (by decide) (by decide)]; rfl
/-- The image and the label map. -/
def H : Finset (Ref sig .tc) := {main_arg0, main_arg1}

/-- The buffers of core `c` as the call finds them. -/
abbrev V (c : Dev nD) (b : Ref sig .tc) : Buf (Elt F) ((c : Thread nD τ).loc b) := W c (Proc.devRef .tc b)

theorem pts_eq (c : Dev nD) :
    (bigSep H (fun b => ((c : Thread nD τ).loc b) ↦{fullShare} V W c b) : sProp 𝕄) = iprop(imgPt c (V W c main_arg0) ∗ labPt c (V W c main_arg1)) := by
  rw [BI.bigSep_eq_bigSepL_of_eq [main_arg0, main_arg1] (by decide) (by decide)]; rfl

/-- The table held whole. -/
abbrev tab (c : Dev nD) : sProp 𝕄 := Pipeline.prefHeld pre1 c (fun _ => fullShare) a.1
theorem tab_eq (c : Dev nD) : (tab a c : sProp 𝕄) = iprop(tabPt c (a.1 0)) := by
  unfold tab Pipeline.prefHeld
  rw [show (Finset.univ : Finset (Fin 1)) = {(0 : Fin 1)} from by decide, bigSep_singleton]
  rfl

/-- The call's invariant, conjunct by conjunct, the table apart. -/
theorem inv_eq (c : Dev nD) :
    (Pipeline.ΦD osem spec1 H (V W) c : sProp 𝕄)
      = iprop(iprop((∃ d, owns (c : Thread nD τ) (Memref.whole cc0_stg0_0) fullShare d) ∗ (∃ d, owns (c : Thread nD τ) (Memref.whole cc0_scratch0) fullShare d)
          ∗ (∃ d, owns (c : Thread nD τ) (Memref.whole cc0_scratch1) fullShare d)
          ∗ (∃ d, owns (c : Thread nD τ) bufM0 fullShare d) ∗ (∃ d, owns (c : Thread nD τ) bufM1 fullShare d))
        ∗ (∃ r, prngReg c r) ∗ iprop(semVal ((c : Thread nD τ), SemLoc.dma 6) 0 ∗ semVal ((c : Thread nD τ), SemLoc.dma 7) 0)
        ∗ iprop(imgPt c (V W c main_arg0) ∗ labPt c (V W c main_arg1))) := by
  rw [Pipeline.ΦD_eq, scopedRest1_eq, ownSems_eq, pts_eq]; simp only [bufM0, bufM1, owns_whole]; try rfl

/-! ## The blocks after each point -/

/-- Buffers through which the blocks are read. -/
abbrev VI : View sig .tc .vmem S1x720x1280 .f32 := (Memref.whole cc1_stg0_0 : Memref sig .tc .vmem S1x720x1280 .f32).view
abbrev VL : View sig .tc .vmem S1x720x1280 .i32 := (Memref.whole cc1_stg1_0 : Memref sig .tc .vmem S1x720x1280 .i32).view

/-- The side conditions the body assumes of the table's two words, at every point. -/
abbrev Fits : Prop := ∀ (c : Dev nD) (i : grid1.Coords), k1_chk1 i (topW (c := c) (a.1 0)) (leftW (c := c) (a.1 0))

variable (hw : Fits a)

/-- The first point. -/
abbrev p0 : Fin (cfg1 a).N := t1_0
theorem p0_first : isFirst (grid1.coords t1_0) := (isFirst_iff t1_0).mpr rfl

open Classical in
/-- The image block after point `t`. -/
def outI (c : Dev nD) (t : Fin (cfg1 a).N) : Vec F S1x720x1280 .f32 :=
  if h : isFirst (grid1.coords t) then
    VI.read (Elt F) (VI.writes (Elt F) VI.junk (runA c (grid1.coords t) (stgI a t) (stgI_whole a t) (stgL a t) (stgL_whole a t) bufM0 (Memref.isWhole_whole _) bufM1 (Memref.isWhole_whole _) h (a.1 0) (V W c main_arg0) (V W c main_arg1) (hw c _)).1)
  else
    VI.read (Elt F) (VI.writes (Elt F) VI.junk (runB c (grid1.coords t) (stgI a t) (stgI_whole a t) (stgL a t) (stgL_whole a t) bufM0 (Memref.isWhole_whole _) bufM1 (Memref.isWhole_whole _) h (a.1 0) (V W c main_arg0) (hw c _)).1)
/-- The label block: stored at the first point, and kept. -/
def outL (c : Dev nD) : Vec F S1x720x1280 .i32 :=
  VL.read (Elt F) (VL.writes (Elt F) VL.junk (runA c (grid1.coords t1_0) (stgI a (p0 a)) (stgI_whole a _) (stgL a (p0 a)) (stgL_whole a _) bufM0 (Memref.isWhole_whole _) bufM1 (Memref.isWhole_whole _) p0_first (a.1 0) (V W c main_arg0) (V W c main_arg1) (hw c _)).2.1)

/-- The call's proof data. -/
def dat (c : Dev nD) : Dat τ (Elt F) Unit ℕ (Pipeline.UD sig nD τ) ℕ (cfg1 a) c where
  A w := V W c (Pipeline.arrRef spec1 w)
  after w t := match w with
    | (0 : Fin 2) => outI W a hw c t
    | (1 : Fin 2) => outL W a hw c
  Φ _ := iprop(Pipeline.ΦD osem spec1 H (V W) c ∗ tab a c)
  q _ := fullShare
  owed _ := 0

theorem dat_A (c : Dev nD) (w : Fin (cfg1 a).W) : (dat W a hw c).A w = V W c (Pipeline.arrRef spec1 w) := by
  dsimp only [dat]
theorem dat_after0 (c : Dev nD) (t : Fin (cfg1 a).N) : (dat W a hw c).after (0 : Fin 2) t = outI W a hw c t := by dsimp only [dat]
theorem dat_after1 (c : Dev nD) (t : Fin (cfg1 a).N) : (dat W a hw c).after (1 : Fin 2) t = outL W a hw c := by dsimp only [dat]

/-- The stored image block covers its buffer, in either case; so does the label block. -/
theorem coverA0 (c : Dev nD) (i : grid1.Coords) (arg4 : Memref sig .tc .vmem S1x720x1280 .f32) (harg4 : arg4.IsWhole) (arg5 : Memref sig .tc .vmem S1x720x1280 .i32) (harg5 : arg5.IsWhole) (arg6 : Memref sig .tc .vmem S728x1408 .f32) (harg6 : arg6.IsWhole) (arg7 : Memref sig .tc .vmem S728x1408 .i32) (harg7 : arg7.IsWhole) (hc0 : isFirst i)
    (xt : TabBuf (F := F) c) (fi : ImgBuf (F := F) c) (fl : LabBuf (F := F) c) (hw : k1_chk1 i (topW xt) (leftW xt)) (y : S1x720x1280.Idx) :
    ∃ pc ∈ (runA c i arg4 harg4 arg5 harg5 arg6 harg6 arg7 harg7 hc0 xt fi fl hw).1, y ∈ pc.1.set :=
  View.cover_of_tiledL (runA c i arg4 harg4 arg5 harg5 arg6 harg6 arg7 harg7 hc0 xt fi fl hw).1 S1x720x1280.size (by sl_kernel_rfl) y
theorem coverA1 (c : Dev nD) (i : grid1.Coords) (arg4 : Memref sig .tc .vmem S1x720x1280 .f32) (harg4 : arg4.IsWhole) (arg5 : Memref sig .tc .vmem S1x720x1280 .i32) (harg5 : arg5.IsWhole) (arg6 : Memref sig .tc .vmem S728x1408 .f32) (harg6 : arg6.IsWhole) (arg7 : Memref sig .tc .vmem S728x1408 .i32) (harg7 : arg7.IsWhole) (hc0 : isFirst i)
    (xt : TabBuf (F := F) c) (fi : ImgBuf (F := F) c) (fl : LabBuf (F := F) c) (hw : k1_chk1 i (topW xt) (leftW xt)) (y : S1x720x1280.Idx) :
    ∃ pc ∈ (runA c i arg4 harg4 arg5 harg5 arg6 harg6 arg7 harg7 hc0 xt fi fl hw).2.1, y ∈ pc.1.set :=
  View.cover_of_tiledL (runA c i arg4 harg4 arg5 harg5 arg6 harg6 arg7 harg7 hc0 xt fi fl hw).2.1 S1x720x1280.size (by sl_kernel_rfl) y
theorem coverB0 (c : Dev nD) (i : grid1.Coords) (arg4 : Memref sig .tc .vmem S1x720x1280 .f32) (harg4 : arg4.IsWhole) (arg5 : Memref sig .tc .vmem S1x720x1280 .i32) (harg5 : arg5.IsWhole) (arg6 : Memref sig .tc .vmem S728x1408 .f32) (harg6 : arg6.IsWhole) (arg7 : Memref sig .tc .vmem S728x1408 .i32) (harg7 : arg7.IsWhole) (hc0 : ¬ isFirst i)
    (xt : TabBuf (F := F) c) (fi : ImgBuf (F := F) c) (hw : k1_chk1 i (topW xt) (leftW xt)) (y : S1x720x1280.Idx) :
    ∃ pc ∈ (runB c i arg4 harg4 arg5 harg5 arg6 harg6 arg7 harg7 hc0 xt fi hw).1, y ∈ pc.1.set :=
  View.cover_of_tiledL (runB c i arg4 harg4 arg5 harg5 arg6 harg6 arg7 harg7 hc0 xt fi hw).1 S1x720x1280.size (by sl_kernel_rfl) y

/-! ## The body's obligation -/

/-- What the body finds and leaves of the label block's buffer at `t`: at the first point it stores it; later it
    leaves it alone. -/
abbrev labPost (c : Dev nD) (t : Fin (cfg1 a).N) : sProp 𝕄 :=
  match (cfg1 a).idle (1 : Fin 2) ((cfg1 a).grid.coords t) with
  | true =>
    match ((cfg1 a).win (1 : Fin 2)).flush t with
    | false => iprop(∃ d, owns (c : Thread nD τ) (stgL a t) fullShare ((dat W a hw c).before (1 : Fin 2) t d))
    | true => owns (c : Thread nD τ) (stgL a t) fullShare ((dat W a hw c).after (1 : Fin 2) t)
  | false => owns (c : Thread nD τ) (stgL a t) fullShare ((dat W a hw c).after (1 : Fin 2) t)

/-- What the body is called with at `t`, -/
def bodyPre (c : Dev nD) (t : Fin (cfg1 a).N) : sProp 𝕄 :=
  iprop((dat W a hw c).Φ t.castSucc ∗ (dat W a hw c).owesAt () t.castSucc
    ∗ (∃ d, owns (c : Thread nD τ) (stgI a t) fullShare ((dat W a hw c).before (0 : Fin 2) t d))
    ∗ (∃ d, owns (c : Thread nD τ) (stgL a t) fullShare ((dat W a hw c).before (1 : Fin 2) t d)))
/-- and what it returns. -/
def bodyPost (c : Dev nD) (t : Fin (cfg1 a).N) : sProp 𝕄 :=
  iprop((dat W a hw c).Φ t.succ ∗ (dat W a hw c).owesAt () t.succ
    ∗ owns (c : Thread nD τ) (stgI a t) fullShare ((dat W a hw c).after (0 : Fin 2) t)
    ∗ labPost W a hw c t)

theorem idle_iff (t : Fin (cfg1 a).N) : (cfg1 a).idle (1 : Fin 2) ((cfg1 a).grid.coords t) = true ↔ ¬ isFirst (grid1.coords t) := by
  show (!(k1_cond1 (grid1.coords t) == 1#1)) = true ↔ _
  simp [isFirst]

/-- At a later point the label block's buffer may go back as found: the block was stored at the first point, and
    is not written back in between. -/
theorem lab_kept (c : Dev nD) (t : Fin (cfg1 a).N) (h : ¬ isFirst (grid1.coords t)) :
    iprop(∃ d, owns (c : Thread nD τ) (stgL a t) fullShare ((dat W a hw c).before (1 : Fin 2) t d)) ⊢ labPost W a hw c t := by
  unfold labPost
  rw [(idle_iff a t).mpr h]
  cases hf : ((cfg1 a).win (1 : Fin 2)).flush t
  · exact .rfl
  · dsimp only
    have ht : t.val = 2 := by
      have h3 : t.val < 3 := lt_of_lt_of_eq t.isLt (show (cfg1 a).N = 3 from N_1)
      have := (flush_lab a t).mp hf; omega
    have hi : ∀ s : Fin (cfg1 a).N, s.val ≠ 0 → (cfg1 a).idle (1 : Fin 2) ((cfg1 a).grid.coords s) = true := fun s hs =>
      (idle_iff a s).mpr fun hh => by
        have h3 : s.val < 3 := lt_of_lt_of_eq s.isLt (show (cfg1 a).N = 3 from N_1)
        have := (isFirst_iff s).mp hh; omega
    have hnf : ∀ s : Fin (cfg1 a).N, s.val ≠ 2 → ((cfg1 a).win (1 : Fin 2)).flush s = false := fun s hs => by
      rw [Bool.eq_false_iff]; intro hh
      have h3 : s.val < 3 := lt_of_lt_of_eq s.isLt (show (cfg1 a).N = 3 from N_1)
      have := (flush_lab a s).mp hh; omega
    have hN1 : 1 < (cfg1 a).N := lt_of_lt_of_eq (by decide) (show 3 = (cfg1 a).N from N_1.symm)
    have hN0 : 0 < (cfg1 a).N := lt_trans (by decide) hN1
    have hi0 : (cfg1 a).idle (1 : Fin 2) ((cfg1 a).grid.coords ⟨0, hN0⟩) = false := by
      rw [Bool.eq_false_iff]; intro hh
      exact (idle_iff a _).mp hh ((isFirst_iff _).mpr rfl)
    have hfr : (cfg1 a).fresh (1 : Fin 2) 2 = false := by
      rw [Pipeline.Cfg.fresh_succ (cfg1 a) (1 : Fin 2) 1 hN1, Pipeline.Cfg.fresh_succ (cfg1 a) (1 : Fin 2) 0 hN0, hi0,
        hnf ⟨1, hN1⟩ (show (1 : ℕ) ≠ 2 by decide), hnf ⟨0, hN0⟩ (show (0 : ℕ) ≠ 2 by decide)]
      simp
    have hfr' : (cfg1 a).fresh (1 : Fin 2) t.val = false := by rw [ht]; exact hfr
    have hb : ∀ d, (dat W a hw c).before (1 : Fin 2) t d = (dat W a hw c).after (1 : Fin 2) t := fun d => by
      rw [(dat W a hw c).before_out_traj (1 : Fin 2) rfl (fun _ _ => rfl) (fun t _ _ _ => by rw [dat_after1, dat_after1]) t.val t rfl d, hfr',
        if_neg Bool.false_ne_true, dat_after1, dat_after1]
    iintro ⟨%d, Hd⟩
    rw [hb d]
    iexact Hd

set_option maxHeartbeats 800000 in
theorem sound_body (c : Dev nD) (t : Fin (cfg1 a).N) :
    bodyPre W a hw c t ⊢ wp frame (wpE (defs₀ (F := F)) Variants.none c none) Set.univ (bodyAt a t) (fun _ => bodyPost W a hw c t) := by
  unfold bodyPre bodyPost bodyAt
  rw [show (dat W a hw c).Φ t.succ = (dat W a hw c).Φ t.castSucc from rfl, dat_after0]
  rw [show (dat W a hw c).Φ t.castSucc = iprop(Pipeline.ΦD osem spec1 H (V W) c ∗ tab a c) from rfl, inv_eq, tab_eq]
  unfold Dat.owesAt Pipeline.owesWithin
  rw [show (dat W a hw c).owed t.castSucc = 0 from rfl, show (dat W a hw c).owed t.succ = 0 from rfl]
  by_cases h0 : isFirst (grid1.coords t)
  · have ht : t = p0 a := Fin.ext (by
      have h3 : t.val < 3 := lt_of_lt_of_eq t.isLt (show (cfg1 a).N = 3 from N_1)
      have := (isFirst_iff t).mp h0
      show t.val = 0; omega)
    subst ht
    have hl : labPost W a hw c (p0 a) = owns (c : Thread nD τ) (stgL a (p0 a)) fullShare (outL W a hw c) := by
      unfold labPost
      rw [show (cfg1 a).idle (1 : Fin 2) ((cfg1 a).grid.coords (p0 a)) = false from by
        rw [Bool.eq_false_iff]; intro hh; exact (idle_iff a _).mp hh h0]
      dsimp only; rw [dat_after1]
    rw [hl, show outI W a hw c (p0 a) = _ from dif_pos h0]
    unfold outL
    iintro ⟨⟨⟨⟨HR0, HR1, HR2, HS0, HS1⟩, Hg, ⟨Hq0, Hq1⟩, ⟨Hi, Hl⟩⟩, HT⟩, ⟨%Wd, -, HW⟩, ⟨%d0, H0⟩, ⟨%d1, H1⟩⟩
    iapply ((runA c (grid1.coords t1_0) _ _ _ _ _ _ _ _ h0 (a.1 0) (V W c main_arg0) (V W c main_arg1) (hw c _)).2.2 Wd _)
    isplitl [H0]; · iexists _; iexact H0
    isplitl [H1]; · iexists _; iexact H1
    isplitl [HS0]; · iexact HS0
    isplitl [HS1]; · iexact HS1
    isplitl [HT]; · iexact HT
    isplitl [Hq0]; · iexact Hq0
    isplitl [Hq1]; · iexact Hq1
    isplitl [Hi]; · iexact Hi
    isplitl [Hl]; · iexact Hl
    isplitl [HW]; · iexact HW
    iintro ⟨⟨%e0, H0⟩, ⟨%e1, H1⟩, HS0, HS1, HT, Hq0, Hq1, Hi, Hl, ⟨%W', HW'⟩⟩
    isplitl [HR0 HR1 HR2 HS0 HS1 Hg Hq0 Hq1 Hi Hl HT]
    · isplitl [HR0 HR1 HR2 HS0 HS1 Hg Hq0 Hq1 Hi Hl]
      · isplitl [HR0 HR1 HR2 HS0 HS1]
        · isplitl [HR0]; · iexact HR0
          isplitl [HR1]; · iexact HR1
          isplitl [HR2]; · iexact HR2
          isplitl [HS0]; · iexact HS0
          iexact HS1
        isplitl [Hg]
        · iexact Hg
        isplitl [Hq0 Hq1]
        · isplitl [Hq0]; · iexact Hq0
          iexact Hq1
        isplitl [Hi]; · iexact Hi
        iexact Hl
      iexact HT
    isplitl [HW']
    · iexists W'; isplitr; · ipureintro; exact fun _ _ => Or.inl trivial
      iexact HW'
    isplitl [H0]
    · unfold owns; iexists _; isplitr
      swap; · iexact H0
      ipureintro; exact View.read_writes_of_cover _ _ _ _ _ (coverA0 c _ _ _ _ _ _ _ _ _ _ _ _ _ _)
    unfold owns; iexists _; isplitr
    swap; · iexact H1
    ipureintro; exact View.read_writes_of_cover _ _ _ _ _ (coverA1 c _ _ _ _ _ _ _ _ _ _ _ _ _ _)
  · rw [show outI W a hw c t = _ from dif_neg h0]
    iintro ⟨⟨⟨⟨HR0, HR1, HR2, HS0, HS1⟩, Hg, ⟨Hq0, Hq1⟩, ⟨Hi, Hl⟩⟩, HT⟩, ⟨%Wd, -, HW⟩, ⟨%d0, H0⟩, H1⟩
    iapply ((runB c (grid1.coords t) _ _ _ _ _ _ _ _ h0 (a.1 0) (V W c main_arg0) (hw c _)).2 Wd _)
    isplitl [H0]; · iexists _; iexact H0
    isplitl [HS0]; · iexact HS0
    isplitl [HT]; · iexact HT
    isplitl [Hq0]; · iexact Hq0
    isplitl [Hi]; · iexact Hi
    isplitl [HW]; · iexact HW
    iintro ⟨⟨%e0, H0⟩, HS0, HT, Hq0, Hi, ⟨%W', HW'⟩⟩
    isplitl [HR0 HR1 HR2 HS0 HS1 Hg Hq0 Hq1 Hi Hl HT]
    · isplitl [HR0 HR1 HR2 HS0 HS1 Hg Hq0 Hq1 Hi Hl]
      · isplitl [HR0 HR1 HR2 HS0 HS1]
        · isplitl [HR0]; · iexact HR0
          isplitl [HR1]; · iexact HR1
          isplitl [HR2]; · iexact HR2
          isplitl [HS0]; · iexact HS0
          iexact HS1
        isplitl [Hg]
        · iexact Hg
        isplitl [Hq0 Hq1]
        · isplitl [Hq0]; · iexact Hq0
          iexact Hq1
        isplitl [Hi]; · iexact Hi
        iexact Hl
      iexact HT
    isplitl [HW']
    · iexists W'; isplitr; · ipureintro; exact fun _ _ => Or.inl trivial
      iexact HW'
    isplitl [H0]
    · unfold owns; iexists _; isplitr
      swap; · iexact H0
      ipureintro; exact View.read_writes_of_cover _ _ _ _ _ (coverB0 c _ _ _ _ _ _ _ _ _ _ _ _ _)
    iapply (lab_kept W a hw c t h0); iexact H1

theorem defs₀_row (t : Fin (cfg1 a).N) :
    defs₀ (F := F) .tc (cfg1 a).body ((cfg1 a).bodyArgs t ((cfg1 a).slots t)) = bodyAt a t := by
  unfold defs₀; rw [Defs.onTc_tc]

/-- The body meets its obligation at every point. -/
theorem body_obligation (c : Dev nD) : BodyObligation (dat W a hw c) (defs₀ (F := F)) Variants.none () Set.univ := fun t => by
  rw [bigSep_W1, bigSep_W1, defs₀_row a]
  exact triple_restated (sound_body W a hw c t) rfl .rfl fun _ => .rfl

end Cert.Kernel.Crop
end
-- ==== Proof.Run.lean ====
/- The whole program's run: the two calls as regions between the host stretches. Every execution ends,
   with all counters at zero and every buffer the program names at the last valuation. -/
module

public import proofs.«01_k».proof.Proof.HistRegion
public import proofs.«01_k».proof.Proof.CropRegion

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg RegionSeg LevelCut pin PCfg arrRefs tblRefs ucRefs hbmRefs)

variable {F : FTy → Type} [FloatOps F]

local notation "𝕄" => MT nD τ sig Unit (Elt F) ℕ (Pipeline.UD sig nD τ) ℕ

variable (m : (ℓ : Loc nD τ sig) → Buf (Elt F) ℓ)

/-! ## What the calls leave, and the table between them -/

/-- The array of counts the first call leaves. -/
def hist (c : Dev nD) : Buf (Elt F) ((c : Thread nD τ).loc main_v0) := (Hist.dat (V1 m) c).arrAt (0 : Fin 1) cfg0.N

/-- The buffers' contents after the first call, as far as they are known before the second. -/
def outsH : Outs (F := F) := fun _ r c => Function.update (V1 m c) main_v0 (hist m c) r

/-- The buffers as the second call finds them. -/
abbrev U (c : Dev nD) : Valuation τ sig (Elt F) := V21 m (outsH m) c

/-- The table's contents as the second call finds them: the chosen corner. -/
def tbl : pre1.Contents (Elt F) := fun k => U m (0 : Dev nD) (pre1.ref k)
/-- No window's block depends on the table. -/
def adm1 : (pcfg1 (F := F)).Adm := ⟨tbl m, show ok1 (tbl m) by unfold ok1; trivial⟩

def adm : (p : Fin 2) → (pcfgs (F := F) p).Adm
  | ⟨0, _⟩ => (cfg0.toPCfg_adm : (cfg0.toPCfg (Val := Elt F)).Adm)
  | ⟨1, _⟩ => adm1 m
  | ⟨_ + 2, h⟩ => absurd h (Nat.not_lt.2 (Nat.le_add_left _ _))

variable (hw : Crop.Fits (adm1 m))

/-- The two result arrays the second call leaves. -/
def img (c : Dev nD) : Buf (Elt F) ((c : Thread nD τ).loc main_v89_0) := (Crop.dat (U m) (adm1 m) hw c).arrAt (0 : Fin 2) (cfg1 (adm1 m)).N
def lab (c : Dev nD) : Buf (Elt F) ((c : Thread nD τ).loc main_v89_1) := (Crop.dat (U m) (adm1 m) hw c).arrAt (1 : Fin 2) (cfg1 (adm1 m)).N

/-- What both calls leave. -/
def outs : Outs (F := F)
  | 2 => fun r c => outsH m 2 r c
  | _ => fun r c => Function.update (Function.update (U m c) main_v89_0 (img m hw c)) main_v89_1 (lab m hw c) r

/-- The host stretches between the calls, as one map of the buffers' contents. -/
def between (v : Valuation τ sig (Elt F)) : Valuation τ sig (Elt F) :=
  StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 v))))))))))))))))))
theorem V21_between (o : Outs (F := F)) (c : Dev nD) : V21 m o c = between (V2 m o c) := rfl

theorem outsH_v0 (n : ℕ) (c : Dev nD) : outsH m n main_v0 c = hist m c := by
  unfold outsH; exact Function.update_self _ _ _
theorem outs_v0 (c : Dev nD) : outs m hw 2 main_v0 c = hist m c := by
  unfold outs; exact outsH_v0 m 2 c
theorem outs_img (c : Dev nD) : outs m hw 22 main_v89_0 c = img m hw c := by
  show Function.update (Function.update (U m c) main_v89_0 (img m hw c)) main_v89_1 (lab m hw c) (Proc.devRef .tc main_v89_0) = _
  rw [Function.update_of_ne (by decide)]; exact Function.update_self _ _ _
theorem outs_lab (c : Dev nD) : outs m hw 22 main_v89_1 c = lab m hw c := by
  show Function.update (Function.update (U m c) main_v89_0 (img m hw c)) main_v89_1 (lab m hw c) (Proc.devRef .tc main_v89_1) = _
  exact Function.update_self _ _ _
theorem V2_eq (c : Dev nD) : V2 m (outs m hw) c = V2 m (outsH m) c := by
  unfold V2; rw [outs_v0, outsH_v0]
theorem V21_eq (c : Dev nD) : V21 m (outs m hw) c = U m c := by
  rw [V21_between, V2_eq, ← V21_between]
theorem V2_hist (c : Dev nD) : V2 m (outs m hw) c main_v0 = hist m c := by
  unfold V2; rw [Function.update_self, outs_v0]
theorem V22_img (c : Dev nD) : V22 m (outs m hw) c main_v89_0 = img m hw c := by
  unfold V22; rw [Function.update_of_ne (by decide), Function.update_self, outs_img]
theorem V22_lab (c : Dev nD) : V22 m (outs m hw) c main_v89_1 = lab m hw c := by
  unfold V22; rw [Function.update_self, outs_lab]

/-- Both calls' proof data. -/
def pdats : (p : Fin 2) → (c : Dev nD) → Dat τ (Elt F) Unit ℕ (Pipeline.UD sig nD τ) ℕ (Pipeline.pin (pcfgs (F := F)) (adm m) p) c
  | ⟨0, _⟩ => fun c => (Hist.dat (V1 m) c : Dat τ (Elt F) Unit ℕ (Pipeline.UD sig nD τ) ℕ cfg0 c)
  | ⟨1, _⟩ => fun c => (Crop.dat (U m) (adm1 m) hw c : Dat τ (Elt F) Unit ℕ (Pipeline.UD sig nD τ) ℕ (cfg1 (adm1 m)) c)
  | ⟨_ + 2, h⟩ => absurd h (Nat.not_lt.2 (Nat.le_add_left _ _))

/-! ## Levels: nothing is owed, so one level does -/

def L : GSem nD τ sig → Finset Unit := fun g => match g.1.2 with | .tc => {()} | _ => ∅
def lv : GSem nD τ sig → Unit → ℕ := fun _ _ => 0
theorem L_off (g : GSem nD τ sig) (h : g.1.2 ≠ .tc) : L g = ∅ := by
  unfold L; split
  · rename_i e; exact absurd e h
  · rfl
theorem mem_L (c : Dev nD) (s : SemLoc sig) : () ∈ L ((c : Thread nD τ), s) := Finset.mem_singleton.mpr rfl

theorem cut (p : Fin 2) : LevelCut (pcfgs (F := F)) (adm m) () L lv p (fun _ => 0) (fun _ => 0) :=
  ⟨fun c _ _ => mem_L c _, fun _ _ _ => le_rfl, fun _ _ _ h => absurd h (lt_irrefl _)⟩

theorem mayWaits (c : Dev nD) : (levAts L lv : sProp 𝕄) ⊢ Transfers.MayWaits (c : Thread nD τ) () 0 := by
  iintro -
  iapply (Transfers.MayWaits.zero (c : Thread nD τ) ())
  iempintro

/-! ## The regions -/

theorem hist_sub : arrRefs (τ := τ) spec0 ⊆ ucRefs τ sig := Pipeline.arrRefs_sub_ucRefs spec0 (by decide)
theorem crop_sub : arrRefs (τ := τ) spec1 ⊆ ucRefs τ sig := Pipeline.arrRefs_sub_ucRefs spec1 (by decide)
theorem tbl_sub : tblRefs (τ := τ) pre1 ⊆ ucRefs τ sig \ arrRefs spec1 := Pipeline.tblRefs_sub_ucRefs_sdiff spec1 pre1 (by decide) (by decide)

/-- The buffers apart from the first call's array, and apart from the second call's arrays and table. -/
abbrev S0 : Finset (DevRef τ sig) := ucRefs τ sig \ arrRefs spec0
abbrev S1 : Finset (DevRef τ sig) := (ucRefs τ sig \ arrRefs spec1) \ tblRefs pre1

theorem hist_ops : hbmRefs (τ := τ) Hist.H ⊆ S0 := by decide
theorem crop_ops : hbmRefs (τ := τ) Crop.H ⊆ S1 := by decide

/-- The first call's region. -/
def R0 : RegionSeg (pcfgs (F := F)) (adm m) (pdats m hw) () defs₀ Variants.none L lv 0 :=
  RegionSeg.ofHeldDH (pcfgs (F := F)) (adm m) (pdats m hw) () defs₀ Variants.none L lv 0 (fun _ => 0) () Hist.osem Hist.ownSemFacts Hist.H S0 hist_ops
    launch0 rfl (fun c => (Hist.body_obligation (V1 m) c).loose) (fun _ _ => rfl) (fun _ => rfl)
    (fun c => (Hist.dat (V1 m) c).share_full fun _ => rfl) (fun c => mayWaits c) (V1 m) (V2 m (outs m hw))
    (fun c => (show _ ⊢ (Pipeline.ΦD Hist.osem spec0 Hist.H (Hist.V (V1 m)) c : sProp 𝕄) by
      rw [Pipeline.ΦD_eq]
      iintro ⟨Hr, Hp, Ho, HH, -⟩
      isplitl [Hr]; · iexact Hr
      isplitl [Hp]; · iexact Hp
      isplitl [Ho]; · iexact Ho
      iexact HH))
    (fun c => (show (Pipeline.ΦD Hist.osem spec0 Hist.H (Hist.V (V1 m)) c : sProp 𝕄) ⊢ _ by
      rw [Pipeline.ΦD_eq]; exact .rfl))
    (fun _ => 0) (cut m 0) (fun _ => iprop(emp))
    (fun c w => Hist.dat_A (V1 m) c w)
    (fun c w => by
      have e : w = (0 : Fin 1) := Subsingleton.elim (α := Fin 1) _ _
      subst e
      exact (V2_hist m hw c).symm)

/-- The second call's region. -/
def R1 : RegionSeg (pcfgs (F := F)) (adm m) (pdats m hw) () defs₀ Variants.none L lv 1 :=
  RegionSeg.ofHeldDHT (pcfgs (F := F)) (adm m) (pdats m hw) () defs₀ Variants.none L lv 1 (fun _ => 0) () Crop.osem Crop.ownSemFacts Crop.H S1 crop_ops
    launch1 (fun c => (Crop.body_obligation (U m) (adm1 m) hw c).loose) (fun _ _ => rfl) (fun _ => rfl)
    (fun c => (Crop.dat (U m) (adm1 m) hw c).share_full fun _ => rfl) (fun c => mayWaits c) (U m) (V22 m (outs m hw))
    (fun c => (show _ ⊢ iprop((Pipeline.ΦD Crop.osem spec1 Crop.H (Crop.V (U m)) c : sProp 𝕄) ∗ Crop.tab (adm1 m) c) by
      rw [Pipeline.ΦD_eq]
      iintro ⟨⟨Hr, Hp, Ho, HH, -⟩, HT⟩
      isplitr [HT]
      · isplitl [Hr]; · iexact Hr
        isplitl [Hp]; · iexact Hp
        isplitl [Ho]; · iexact Ho
        iexact HH
      iexact HT))
    (fun c => (show iprop((Pipeline.ΦD Crop.osem spec1 Crop.H (Crop.V (U m)) c : sProp 𝕄) ∗ Crop.tab (adm1 m) c) ⊢ _ by
      rw [Pipeline.ΦD_eq]; exact .rfl))
    (fun _ => 0) (cut m 1) (fun _ => iprop(emp))
    (fun c w => Crop.dat_A (U m) (adm1 m) hw c w)
    (fun c k => by obtain rfl : c = 0 := Subsingleton.elim _ _; rfl)
    (fun c w => by
      match w with
      | (0 : Fin 2) => exact (V22_img m hw c).symm
      | (1 : Fin 2) => exact (V22_lab m hw c).symm)
    (fun c k => by
      obtain rfl : c = 0 := Subsingleton.elim _ _
      have e : k = (0 : Fin 1) := Subsingleton.elim (α := Fin 1) _ _
      subst e
      exact (show tbl m 0 = _ from (congrFun (V21_eq m hw 0) _).symm).trans (V22_of m (outs m hw) 0 main_v88 (by decide)).symm)

end Cert.Kernel.Whole
end
-- ==== Proof.Launch.lean ====
/- The whole program's run, assembled: every execution ends with all counters at zero and every
   buffer outside the calls' scopes at the last valuation. -/
module

public import proofs.«01_k».proof.Proof.Run

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg RegionSeg LevelCut pin PCfg arrRefs tblRefs ucRefs hbmRefs)

variable {F : FTy → Type} [FloatOps F]

local notation "𝕄" => MT nD τ sig Unit (Elt F) ℕ (Pipeline.UD sig nD τ) ℕ

variable (m : (ℓ : Loc nD τ sig) → Buf (Elt F) ℓ)

variable (hw : Crop.Fits (adm1 m)) (ρ : Dev nD → PrngReg)

/-- What rides along beside the buffers: the generator's state and the record of dues, which stay empty. -/
def E : Fin 3 → Dev nD → sProp 𝕄 := fun _ c => iprop((∃ r, prngReg c r) ∗ ∃ W, owes (c : Thread nD τ) (0 : CellTallies nD τ sig Unit) W)

/-- Off its own array the first call changes no buffer. -/
theorem V2_rest (c : Dev nD) : ∀ b ∈ S0, V1 m c b = V2 m (outs m hw) c b := fun b hb => by
  unfold V2
  refine (Function.update_of_ne (fun h => ?_) _ _).symm
  subst h
  exact absurd hb (by decide)

/-- Off its own arrays the second call changes no buffer. -/
theorem V22_rest (c : Dev nD) (b : DevRef τ sig) (hb : b ∉ arrRefs (τ := τ) spec1) : U m c b = V22 m (outs m hw) c b := by
  rw [← V21_eq m hw c]
  unfold V22
  rw [Function.update_of_ne (fun h => hb (by subst h; decide)), Function.update_of_ne (fun h => hb (by subst h; decide))]

theorem enter0 (c : Dev nD) : iprop(StableHlo.held (c : Thread nD τ) (ucRefs τ sig) (V1 m c) ∗ E 0 c) ⊢ (R0 m hw).pre c := by
  show _ ⊢ iprop(StableHlo.held (c : Thread nD τ) (arrRefs spec0) (V1 m c) ∗ (∃ r, prngReg c r)
    ∗ (StableHlo.held (c : Thread nD τ) S0 (V1 m c) ∗ BI.emp) ∗ ∃ Wd, owes (c : Thread nD τ) (0 : CellTallies nD τ sig Unit) Wd)
  rw [StableHlo.held_sub_split (c : Thread nD τ) hist_sub (V1 m c)]
  unfold E
  iintro ⟨⟨Ha, Hr⟩, Hp, Ho⟩
  isplitl [Ha]; · iexact Ha
  isplitl [Hp]; · iexact Hp
  isplitl [Hr]
  · isplitl [Hr]; · iexact Hr
    iempintro
  iexact Ho

theorem leave0 (c : Dev nD) : (R0 m hw).post c ⊢ iprop(StableHlo.held (c : Thread nD τ) (ucRefs τ sig) (V2 m (outs m hw) c) ∗ E 1 c) := by
  show iprop(StableHlo.held (c : Thread nD τ) (arrRefs spec0) (V2 m (outs m hw) c) ∗ (∃ r, prngReg c r)
    ∗ (StableHlo.held (c : Thread nD τ) S0 (V1 m c) ∗ BI.emp) ∗ ∃ Wd, owes (c : Thread nD τ) (0 : CellTallies nD τ sig Unit) Wd) ⊢ _
  rw [StableHlo.held_sub_split (c : Thread nD τ) hist_sub (V2 m (outs m hw) c), StableHlo.held_congr (c : Thread nD τ) (V2_rest m hw c)]
  unfold E
  iintro ⟨Ha, Hp, ⟨Hr, -⟩, Ho⟩
  isplitl [Ha Hr]
  · isplitl [Ha]; · iexact Ha
    iexact Hr
  isplitl [Hp]; · iexact Hp
  iexact Ho

theorem enter1 (c : Dev nD) : iprop(StableHlo.held (c : Thread nD τ) (ucRefs τ sig) (V21 m (outs m hw) c) ∗ E 1 c) ⊢ (R1 m hw).pre c := by
  show _ ⊢ iprop(StableHlo.held (c : Thread nD τ) (arrRefs spec1) (U m c) ∗ StableHlo.held (c : Thread nD τ) (tblRefs pre1) (U m c) ∗ (∃ r, prngReg c r)
    ∗ (StableHlo.held (c : Thread nD τ) S1 (U m c) ∗ BI.emp) ∗ ∃ Wd, owes (c : Thread nD τ) (0 : CellTallies nD τ sig Unit) Wd)
  rw [V21_eq, StableHlo.held_sub_split (c : Thread nD τ) crop_sub (U m c), StableHlo.held_sub_split (c : Thread nD τ) tbl_sub (U m c)]
  unfold E
  iintro ⟨⟨Ha, Ht, Hr⟩, Hp, Ho⟩
  isplitl [Ha]; · iexact Ha
  isplitl [Ht]; · iexact Ht
  isplitl [Hp]; · iexact Hp
  isplitl [Hr]
  · isplitl [Hr]; · iexact Hr
    iempintro
  iexact Ho

theorem leave1 (c : Dev nD) : (R1 m hw).post c ⊢ iprop(StableHlo.held (c : Thread nD τ) (ucRefs τ sig) (V22 m (outs m hw) c) ∗ E 2 c) := by
  show iprop(StableHlo.held (c : Thread nD τ) (arrRefs spec1) (V22 m (outs m hw) c) ∗ StableHlo.held (c : Thread nD τ) (tblRefs pre1) (V22 m (outs m hw) c) ∗ (∃ r, prngReg c r)
    ∗ (StableHlo.held (c : Thread nD τ) S1 (U m c) ∗ BI.emp) ∗ ∃ Wd, owes (c : Thread nD τ) (0 : CellTallies nD τ sig Unit) Wd) ⊢ _
  rw [StableHlo.held_sub_split (c : Thread nD τ) crop_sub (V22 m (outs m hw) c), StableHlo.held_sub_split (c : Thread nD τ) tbl_sub (V22 m (outs m hw) c),
    StableHlo.held_congr (c : Thread nD τ) (fun b (hb : b ∈ S1) => V22_rest m hw c b (Finset.mem_sdiff.mp (Finset.mem_sdiff.mp hb).1).2)]
  unfold E
  iintro ⟨Ha, Ht, Hp, ⟨Hr, -⟩, Ho⟩
  isplitl [Ha Ht Hr]
  · isplitl [Ha]; · iexact Ha
    isplitl [Ht]; · iexact Ht
    iexact Hr
  isplitl [Hp]; · iexact Hp
  iexact Ho

set_option backward.isDefEq.respectTransparency.types false in
/-- Every execution of the whole program ends, with every buffer outside the calls' scopes at the
    last valuation and every counter at zero. -/
theorem run_main : θ_run defs (onTc (τ := τ) (main (F := F))) ⟨m, fun _ => 0, ρ⟩ (fun r =>
    (∀ (c : Dev nD) (b : Ref sig .tc), (Proc.devRef .tc b : DevRef τ sig) ∈ ucRefs τ sig →
      r.2.mem ((c.tc : Thread nD τ).loc b) = V22 m (outs m hw) c (Proc.devRef .tc b)) ∧ r.2.sem = fun _ => 0) := by
  refine Pipeline.θ_run_regions_kit_dev_sems (pcfgs (F := F)) (adm m) (pdats m hw) () (cellOf_inj (adm m)) embL defs₀ Variants.none L lv m ρ main
    (segs m (outs m hw) Variants.none L lv E () (adm m) (pdats m hw) (R0 m hw) (R1 m hw))
    (fun c Q => by
      rewrite [main_chain c, Seg.run_eq_chain,
        show (segs m (outs m hw) Variants.none L lv E () (adm m) (pdats m hw) (R0 m hw) (R1 m hw) c).map Seg.prog =
          StableHlo.seq hostOps0 :: Prog.lift (.customCall (Pipeline.entry 0) ())
            :: ([hostOps1, hostOps1_1, hostOps1_2, hostOps1_3, hostOps1_4, hostOps1_5, hostOps1_6, hostOps1_7, hostOps1_8, hostOps1_9, hostOps1_10,
                hostOps1_11, hostOps1_12, hostOps1_13, hostOps1_14, hostOps1_15, hostOps1_16, hostOps1_17, hostOps1_18].map StableHlo.seq
              ++ [Prog.lift (.customCall (Pipeline.entry 1) ())]) from rfl]
      dsimp (config := { failIfUnchanged := false }) only [List.map, List.append, HAppend.hAppend, Append.append]
      exact .rfl)
    (fun c => by simp only [segs, Seg.pipes_host, Seg.pipes_region, Seg.pipes_nil]; decide) (fun _ => 0) L_off (fun _ => BI.emp)
    ((initOf (Pipeline.cells (pin (pcfgs (F := F)) (adm m)) (cellOf_inj (adm m))) (Pipeline.launchToks (pin (pcfgs (F := F)) (adm m)) (cellOf_inj (adm m))), 1) : Pipeline.UD sig nD τ)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ E 0 c))
    (Tₙ := fun c => StableHlo.held (c : Thread nD τ) (ucRefs τ sig) (V22 m (outs m hw) c))
    (hch := fun c => ⟨.rfl, enter0 m hw c, leave0 m hw c, .rfl, .rfl, .rfl, .rfl, .rfl, .rfl, .rfl, .rfl, .rfl, .rfl, .rfl, .rfl, .rfl, .rfl, .rfl, .rfl, .rfl, .rfl, enter1 m hw c,
      (leave1 m hw c).trans (sep_mono .rfl (by unfold E; iintro ⟨-, Ho⟩; iexact Ho))⟩)
    (hinit := ?_)
    (QY := fun c s => ∀ b : Ref sig .tc, (Proc.devRef .tc b : DevRef τ sig) ∈ ucRefs τ sig → s.mem ((c.tc : Thread nD τ).loc b) = V22 m (outs m hw) c (Proc.devRef .tc b))
    (hfin := fun c s' => ?_) (hQ := fun _ h hz => ⟨h, funext fun g => hz g (.inr (regions_no_unscoped g.2))⟩)
  · refine Pipeline.initEach _ _ fun c => ?_
    rw [show (unscopedBufs c (fun b => m ((c.tc : Thread nD τ).loc b)) : sProp 𝕄) = StableHlo.held (c : Thread nD τ) (ucRefs τ sig) (V0 m c)
      from Pipeline.unscopedBufs_held (Ix := Unit) (Name := ℕ) (U := Pipeline.UD sig nD τ) (Lvl := ℕ) c (V0 m c)]
    unfold E
    iintro ⟨⟨Hb, -, Ho, -, Hp, -⟩, -⟩
    imodintro
    isplitl [Hb]; · iexact Hb
    isplitl [Hp]; · iexists _; iexact Hp
    iexists _; iexact Ho
  · unfold StableHlo.held
    iintro ⟨Hh, HSI⟩
    ihave Hr := (pointsTo_read_all (ucRefs τ sig) (fun b => ((c : Thread nD τ).1, b)) (V22 m (outs m hw) c) s') $$ [Hh HSI]
    · isplitl [Hh] <;> iassumption
    icases Hr with ⟨%h, HSI⟩
    imodintro
    isplitr
    · ipureintro
      exact fun b hb => h (Proc.devRef .tc b) hb
    · iexact HSI

end Cert.Kernel.Whole
end
-- ==== Proof.Choice.lean ====
/- The host code between the two calls, read off: the cost of each crop from its row of counts, the
   choice of the cheapest, and the table of the chosen corner. -/
module

public import proofs.«01_k».proof.Proof.Gen.Kernel.Regions
public import Idealize.ShloMosaic.Lib.StableHlo.RunRead
public import Idealize.ShloMosaic.Lib.Pipeline.Value

@[expose] public section

set_option maxRecDepth 16384
set_option maxHeartbeats 4000000

noncomputable section

namespace Cert.Kernel.Choice

open Cert.Kernel Cert.Kernel.Gen
open Idealize.ShloMosaic Idealize.ShloMosaic.TcCoe Idealize.ShloMosaic.StableHlo Idealize.SL.Sem

variable {F : FTy → Type} [FloatOps F]

/-- A vector of weights over its sum of absolute values, the sum kept off zero. -/
def norm (x : FVec F S20 .f32) : FVec F S20 .f32 :=
  Host.divf x (broadcastInDim S20 ![] bcast_S_S20
    (maximumf (Host.reduceAdd (Host.absf x) (constant S_ .f32 0x00000000#32) reducesTo_S20_S_d0 h_S_) (constant S_ .f32 0x2B8CBCCC#32)))

/-- Counts as floats, with the ignored label's bin set to zero. -/
def bins (h : IVec S20 32) : FVec F S20 .f32 :=
  Host.scatter scatter_S20_S1_S__n_0_0_0 (fun _ b => b) (sitofp .f32 h) (broadcastInDim S1 ![] bcast_S_S1 (constantI S_ 32 0#32)) (constant S_ .f32 0x00000000#32)

/-- What a crop with these counts costs. -/
def cost (lc : FVec F S20 .f32) (h : IVec S20 32) : FVec F S_ .f32 :=
  Host.reduceAdd (mulf (norm lc) (norm (bins h))) (constant S_ .f32 0x00000000#32) reducesTo_S20_S_d0 h_S_

/-- The costs of the four crops, with what the comparisons between them find. -/
structure Costs (F : FTy → Type) where
  c0 : FVec F S_ .f32
  c1 : FVec F S_ .f32
  c2 : FVec F S_ .f32
  c3 : FVec F S_ .f32

namespace Costs
variable (k : Costs F)
def p1 : IVec S_ 1 := cmpf .olt k.c1 k.c0
def b1 : FVec F S_ .f32 := select k.p1 k.c1 k.c0
def p2 : IVec S_ 1 := cmpf .olt k.c2 k.b1
def b2 : FVec F S_ .f32 := select k.p2 k.c2 k.b1
def p3 : IVec S_ 1 := cmpf .olt k.c3 k.b2
/-- The least cost. -/
def b3 : FVec F S_ .f32 := select k.p3 k.c3 k.b2
/-- Of four values the one of the cheapest crop. -/
def pick {e : EltTy} (x0 x1 x2 x3 : (⟨S_, e⟩ : BufTy).Contents (Elt F)) : (⟨S_, e⟩ : BufTy).Contents (Elt F) :=
  select k.p3 x3 (select k.p2 x2 (select k.p1 x1 x0))
end Costs

/-- Row `s` of the array of counts, its first twenty lanes. -/
def row (s : Fin 3 → ℕ) (hs : S4x1x128.Slices s S1x1x20) (h : IVec S4x1x128 32) : IVec S20 32 :=
  id (shapeCast S20 (extractStridedSlice S1x1x20 s h hs) shapeCasts_S1x1x20_S20)

def costs (A : Valuation τ sig (Elt F)) : Costs F where
  c0 := cost (A main_arg2) (row ![0, 0, 0] slices_S4x1x128_S1x1x20_0_0_0 (A main_v0))
  c1 := cost (A main_arg2) (row ![1, 0, 0] slices_S4x1x128_S1x1x20_1_0_0 (A main_v0))
  c2 := cost (A main_arg2) (row ![2, 0, 0] slices_S4x1x128_S1x1x20_2_0_0 (A main_v0))
  c3 := cost (A main_arg2) (row ![3, 0, 0] slices_S4x1x128_S1x1x20_3_0_0 (A main_v0))

variable (A : Valuation τ sig (Elt F))

theorem v18_eq : after hostOps1 A (no_index (Proc.devRef .tc main_v18)) = (costs A).c0 := by
  after_reads_simp
  unfold costs cost norm bins row
  rfl
theorem v31_eq : after hostOps1 A (no_index (Proc.devRef .tc main_v31)) = (costs A).c1 := by
  after_reads_simp
  unfold costs cost norm bins row
  rfl
theorem v44_eq : after hostOps1 A (no_index (Proc.devRef .tc main_v44)) = (costs A).c2 := by
  after_reads_simp
  unfold costs cost norm bins row
  rfl
theorem v57_eq : after hostOps1 A (no_index (Proc.devRef .tc main_v57)) = (costs A).c3 := by
  after_reads_simp
  unfold costs cost norm bins row
  rfl
theorem v62_eq : after hostOps1 A (no_index (Proc.devRef .tc main_v62)) = (costs A).p1 := by
  have h : after hostOps1 A (Proc.devRef .tc main_v62) = cmpf .olt (after hostOps1 A (Proc.devRef .tc main_v31)) (after hostOps1 A (Proc.devRef .tc main_v18)) := by
    after_reads_simp
  exact h.trans (congrArg₂ (cmpf .olt) (v31_eq A) (v18_eq A))

/-- The first crop's corner, read out of the constant lists before the comparisons. -/
theorem v59_eq : after hostOps1 A (no_index (Proc.devRef .tc main_v59)) = shapeCast S_ (extractStridedSlice S1 ![0] (A (Proc.devRef .tc main_c)) slices_S4_S1_0) shapeCasts_S1_S_ := by
  after_reads_simp
  rfl
theorem v61_eq : after hostOps1 A (no_index (Proc.devRef .tc main_v61)) = shapeCast S_ (extractStridedSlice S1 ![0] (A (Proc.devRef .tc main_c_0)) slices_S4_S1_0) shapeCasts_S1_S_ := by
  after_reads_simp
  rfl
theorem c_keep : after hostOps1 A (Proc.devRef .tc main_c) = A (Proc.devRef .tc main_c) := after_of_writes_sub hostOps1 _ hostOps1_writes (by decide)
theorem c0_keep : after hostOps1 A (Proc.devRef .tc main_c_0) = A (Proc.devRef .tc main_c_0) := after_of_writes_sub hostOps1 _ hostOps1_writes (by decide)

/-- The host stretches after the costs: comparisons, choices, the table. -/
def late (B : Valuation τ sig (Elt F)) : Valuation τ sig (Elt F) :=
  after hostOps1_18 (after hostOps1_17 (after hostOps1_16 (after hostOps1_15 (after hostOps1_14 (after hostOps1_13 (after hostOps1_12 (after hostOps1_11 (after hostOps1_10 (after hostOps1_9 (after hostOps1_8 (after hostOps1_7 (after hostOps1_6 (after hostOps1_5 (after hostOps1_4 (after hostOps1_3 (after hostOps1_2 (after hostOps1_1 (B))))))))))))))))))

/-- The same up to the chosen corner, before the table is put together. -/
def late17 (B : Valuation τ sig (Elt F)) : Valuation τ sig (Elt F) :=
  after hostOps1_17 (after hostOps1_16 (after hostOps1_15 (after hostOps1_14 (after hostOps1_13 (after hostOps1_12 (after hostOps1_11 (after hostOps1_10 (after hostOps1_9 (after hostOps1_8 (after hostOps1_7 (after hostOps1_6 (after hostOps1_5 (after hostOps1_4 (after hostOps1_3 (after hostOps1_2 (after hostOps1_1 (B)))))))))))))))))
theorem late_eq (B : Valuation τ sig (Elt F)) : late B = after hostOps1_18 (late17 B) := rfl

/-- A table of two words. -/
def pair (x y : IVec S_ 32) : IVec S2 32 :=
  concatenate S2 0 [⟨S1, broadcastInDim S1 ![] bcast_S_S1 x⟩, ⟨S1, broadcastInDim S1 ![] bcast_S_S1 y⟩] concatenates_S1_S1_S2_d0

theorem v88_eq (C : Valuation τ sig (Elt F)) (x y : IVec S_ 32) (hx : C (Proc.devRef .tc main_v82) = x) (hy : C (Proc.devRef .tc main_v85) = y) :
    after hostOps1_18 C (Proc.devRef .tc main_v88) = pair x y := by
  have e1 : upto hostOps1_18 C 2 (Proc.devRef .tc main_v86) = broadcastInDim S1 ![] bcast_S_S1 x := by
    after_reads_simp
    rw [hx]
  have e2 : upto hostOps1_18 C 2 (Proc.devRef .tc main_v87) = broadcastInDim S1 ![] bcast_S_S1 y := by
    after_reads_simp
    rw [hy]
  after_reads_simp
  rw [e1, e2]
  rfl

/-- One entry of a list of four, as a scalar. -/
def entry (off : Fin 1 → ℕ) (hs : S4.Slices off S1) (x : IVec S4 32) : IVec S_ 32 := shapeCast S_ (extractStridedSlice S1 off x hs) shapeCasts_S1_S_

section Late
variable (B : Valuation τ sig (Elt F)) (k : Costs F)
  (h0 : B (Proc.devRef .tc main_v18) = k.c0) (h1 : B (Proc.devRef .tc main_v31) = k.c1) (h2 : B (Proc.devRef .tc main_v44) = k.c2) (h3 : B (Proc.devRef .tc main_v57) = k.c3)
  (hp : B (Proc.devRef .tc main_v62) = k.p1)
include h0 h1 h2 h3 hp

theorem v79_late : late B (Proc.devRef .tc main_v79) = k.b3 := by
  unfold late
  after_reads_simp
  simp only [TRef.toBuf, TRef.ofBuf, cast_eq]
  rw [h0, h1, h2, h3, hp]
  rfl

theorem v82_late (x : S4.Idx → BitVec 32) (hx : B (Proc.devRef .tc main_c) = x)
    (ht : B (Proc.devRef .tc main_v59) = entry ![0] slices_S4_S1_0 x) :
    late17 B (Proc.devRef .tc main_v82) =
      k.pick (e := .i32) (entry ![0] slices_S4_S1_0 x) (entry ![1] slices_S4_S1_1 x) (entry ![2] slices_S4_S1_2 x) (entry ![3] slices_S4_S1_3 x) := by
  unfold late17
  after_reads_simp
  simp only [TRef.toBuf, TRef.ofBuf, cast_eq]
  rw [h0, h1, h2, h3, hp, hx, ht]
  rfl
theorem v85_late (y : S4.Idx → BitVec 32) (hy : B (Proc.devRef .tc main_c_0) = y)
    (hl : B (Proc.devRef .tc main_v61) = entry ![0] slices_S4_S1_0 y) :
    late17 B (Proc.devRef .tc main_v85) =
      k.pick (e := .i32) (entry ![0] slices_S4_S1_0 y) (entry ![1] slices_S4_S1_1 y) (entry ![2] slices_S4_S1_2 y) (entry ![3] slices_S4_S1_3 y) := by
  unfold late17
  after_reads_simp
  simp only [TRef.toBuf, TRef.ofBuf, cast_eq]
  rw [h0, h1, h2, h3, hp, hy, hl]
  rfl
end Late

/-! ## The choice as an index -/

namespace Costs
variable (k : Costs F)
/-- Which of the four crops is chosen. -/
def which : Fin 4 :=
  if k.p3 (Shape.Idx.first h_S_) = 1 then 3 else if k.p2 (Shape.Idx.first h_S_) = 1 then 2 else if k.p1 (Shape.Idx.first h_S_) = 1 then 1 else 0

theorem scalar_idx (j : S_.Idx) : j = Shape.Idx.first h_S_ := funext fun a => a.elim0

theorem pick_apply {e : EltTy} (x0 x1 x2 x3 : (⟨S_, e⟩ : BufTy).Contents (Elt F)) (j : S_.Idx) :
    k.pick x0 x1 x2 x3 j = (![x0 j, x1 j, x2 j, x3 j] : Fin 4 → Elt F e) k.which := by
  unfold pick which
  rw [scalar_idx j]
  show Scalar.select _ _ (Scalar.select _ _ (Scalar.select _ _ _)) = _
  unfold Scalar.select
  split_ifs <;> rfl
end Costs

/-- The constant lists of the crops' corners. -/
def tops : IVec S4 32 := fun i => lit0 (S4.rowMajor i)
def lefts : IVec S4 32 := fun i => lit1 (S4.rowMajor i)

theorem pick_tops (k : Costs F) (j : S_.Idx) : k.pick (e := .i32) (entry ![0] slices_S4_S1_0 tops) (entry ![1] slices_S4_S1_1 tops) (entry ![2] slices_S4_S1_2 tops) (entry ![3] slices_S4_S1_3 tops) j
    = lit0 k.which := by
  rw [Costs.pick_apply]
  generalize k.which = w
  revert w
  rw [Costs.scalar_idx j]
  intro w
  match w with
  | 0 => rfl
  | 1 => rfl
  | 2 => rfl
  | 3 => rfl
theorem pick_lefts (k : Costs F) (j : S_.Idx) : k.pick (e := .i32) (entry ![0] slices_S4_S1_0 lefts) (entry ![1] slices_S4_S1_1 lefts) (entry ![2] slices_S4_S1_2 lefts) (entry ![3] slices_S4_S1_3 lefts) j
    = lit1 k.which := by
  rw [Costs.pick_apply]
  generalize k.which = w
  revert w
  rw [Costs.scalar_idx j]
  intro w
  match w with
  | 0 => rfl
  | 1 => rfl
  | 2 => rfl
  | 3 => rfl

/-- A table of two words, read at its two places. -/
theorem pair_left (x y : IVec S_ 32) (j : S2.Idx) (hj : (j 0).val = 0) : pair x y j = x (Shape.Idx.first h_S_) := by
  unfold pair
  rw [concatenate_pair_apply_left (s₁ := S1) (s₂ := S1) (t := S2) 0 _ _ _ j rfl (Shape.Idx.first numel1_S1.ge) (fun b => by
    obtain rfl : b = 0 := Subsingleton.elim _ _
    exact hj.symm)]
  exact congrArg x (Costs.scalar_idx _)
theorem pair_right (x y : IVec S_ 32) (j : S2.Idx) (hj : (j 0).val = 1) : pair x y j = y (Shape.Idx.first h_S_) := by
  unfold pair
  rw [concatenate_pair_apply_right (s₁ := S1) (s₂ := S1) (t := S2) 0 _ _ _ j rfl rfl (Shape.Idx.first numel1_S1.ge) (fun b hb => absurd (Subsingleton.elim _ _) hb) (by rw [hj]; rfl)]
  exact congrArg y (Costs.scalar_idx _)

/-- Each of the four corners leaves its aligned window inside the image. -/
theorem fits (i : grid1.Coords) (w : Fin 4) : k1_chk1 i (lit0 w) (lit1 w) := by
  revert w i; decide +kernel

end Cert.Kernel.Choice
end
-- ==== Proof.Table.lean ====
/- What the second call finds: the table holds the corner of the cheapest crop, the arguments are as
   launched, and the least cost stands in its buffer. -/
module

public import proofs.«01_k».proof.Proof.Choice
public import proofs.«01_k».proof.Proof.Run

@[expose] public section

set_option maxRecDepth 16384

noncomputable section

namespace Cert.Kernel.Whole

open Cert.Kernel Cert.Kernel.Gen Cert.Kernel.Choice
open Idealize.ShloMosaic Idealize.ShloMosaic.TcCoe Idealize.ShloMosaic.StableHlo Idealize.SL.Sem

variable {F : FTy → Type} [FloatOps F]
variable (m : (ℓ : Loc nD τ sig) → Buf (Elt F) ℓ)

/-- The costs of the four crops, from the counts the first call leaves. -/
def kosts (c : Dev nD) : Costs F := costs (V2 m (outsH m) c)

theorem late_V21 (c : Dev nD) : U m c = late (after hostOps1 (V2 m (outsH m) c)) := rfl

theorem tops_V2 (c : Dev nD) : V2 m (outsH m) c (Proc.devRef .tc main_c) = tops := by
  rw [V2_of m (outsH m) c main_c (by decide)]
  show after hostOps0 (V0 m c) (Proc.devRef .tc main_c) = _
  after_reads_simp
  rfl
theorem lefts_V2 (c : Dev nD) : V2 m (outsH m) c (Proc.devRef .tc main_c_0) = lefts := by
  rw [V2_of m (outsH m) c main_c_0 (by decide)]
  show after hostOps0 (V0 m c) (Proc.devRef .tc main_c_0) = _
  after_reads_simp
  rfl

theorem U_cost (c : Dev nD) : U m c (Proc.devRef .tc main_v79) = (kosts m c).b3 := by
  rw [late_V21]
  exact v79_late _ _ (v18_eq _) (v31_eq _) (v44_eq _) (v57_eq _) (v62_eq _)

theorem U_table (c : Dev nD) : ∃ x y : IVec S_ 32, U m c (Proc.devRef .tc main_v88) = pair x y
    ∧ x (Shape.Idx.first h_S_) = lit0 (kosts m c).which ∧ y (Shape.Idx.first h_S_) = lit1 (kosts m c).which := by
  refine ⟨_, _, ?_, pick_tops (kosts m c) _, pick_lefts (kosts m c) _⟩
  rw [late_V21, late_eq]
  refine v88_eq _ _ _ ?_ ?_
  · exact v82_late _ _ (v18_eq _) (v31_eq _) (v44_eq _) (v57_eq _) (v62_eq _) tops ((c_keep _).trans (tops_V2 m c))
      ((v59_eq _).trans (by rw [tops_V2]; rfl))
  · exact v85_late _ _ (v18_eq _) (v31_eq _) (v44_eq _) (v57_eq _) (v62_eq _) lefts ((c0_keep _).trans (lefts_V2 m c))
      ((v61_eq _).trans (by rw [lefts_V2]; rfl))

/-- The places the two words of the table are read at. -/
theorem topW_at (c : Dev nD) : ∃ j : S2.Idx, (j 0).val = 0 ∧ ∀ xt : Crop.TabBuf (F := F) c, Crop.topW xt = xt j := by
  refine ⟨_, ?_, fun xt => rfl⟩
  rfl
theorem leftW_at (c : Dev nD) : ∃ j : S2.Idx, (j 0).val = 1 ∧ ∀ xt : Crop.TabBuf (F := F) c, Crop.leftW xt = xt j := by
  refine ⟨_, ?_, fun xt => rfl⟩
  rfl

theorem top_eq (c : Dev nD) : Crop.topW (c := c) (tbl m 0) = lit0 (kosts m 0).which := by
  obtain ⟨x, y, h, hx, hy⟩ := U_table m 0
  obtain ⟨j, hj, e⟩ := topW_at (F := F) c
  exact (e _).trans ((congrFun h j).trans ((pair_left x y j hj).trans hx))
theorem left_eq (c : Dev nD) : Crop.leftW (c := c) (tbl m 0) = lit1 (kosts m 0).which := by
  obtain ⟨x, y, h, hx, hy⟩ := U_table m 0
  obtain ⟨j, hj, e⟩ := leftW_at (F := F) c
  exact (e _).trans ((congrFun h j).trans ((pair_right x y j hj).trans hy))

/-- The side conditions the second call assumes of the table hold. -/
theorem table_fits : Crop.Fits (adm1 m) := fun c i => by
  show k1_chk1 i (Crop.topW (c := c) (tbl m 0)) (Crop.leftW (c := c) (tbl m 0))
  rw [top_eq, left_eq]
  exact fits i _

end Cert.Kernel.Whole
end
-- ==== Proof.Frames.lean ====
/- The frame claims: the kernel at every instance of the float values, its idealized print, and the
   reference. Each run terminates, leaves the arguments as they were and all counters at zero. -/
module

public import proofs.«01_k».proof.Proof.Transfer
public import proofs.«01_k».proof.Proof.Launch
public import proofs.«01_k».proof.Proof.Table
public import proofs.«01_k».proof.Proof.Gen.ReferenceIdeal.Run
public import Idealize.ShloMosaic.Lib.Quiescent

@[expose] public section
set_option maxRecDepth 16384
noncomputable section
namespace Cert.Proof
open Idealize.ShloMosaic Idealize.SL.Sem

section
open Cert.Kernel Cert.Kernel.Gen Cert.Kernel.Whole
open Idealize.ShloMosaic.TcCoe
open Idealize.ShloMosaic.Pipeline (ucRefs)

/-- The kernel's frame at float values `F`: the whole run, read at the three arguments. -/
theorem kernel_quiet (F : FTy → Type) [FloatOps F] : KernelQuiet F := by
  intro m g _
  refine (θ_run _ _ _).mono (fun r h => ⟨fun c => ?_, h.2⟩) (run_main m (table_fits m) g)
  refine ⟨?_, ?_, ?_⟩
  · exact (h.1 c main_arg0 (Finset.mem_filter.mpr ⟨StableHlo.devRef_mem_tcRefs main_arg0, by decide⟩)).trans
      (V22_main_arg0 m (outs m (table_fits m)) c)
  · exact (h.1 c main_arg1 (Finset.mem_filter.mpr ⟨StableHlo.devRef_mem_tcRefs main_arg1, by decide⟩)).trans
      (V22_main_arg1 m (outs m (table_fits m)) c)
  · exact (h.1 c main_arg2 (Finset.mem_filter.mpr ⟨StableHlo.devRef_mem_tcRefs main_arg2, by decide⟩)).trans
      (V22_main_arg2 m (outs m (table_fits m)) c)

end

/-- The kernel's frame on the hardware's floats. -/
theorem frame_kernel : Cert.quiescent_Kernel := fun m g _ => kernel_quiet Bits m g trivial

/-- The idealized kernel's frame. -/
theorem frame_ideal : Cert.quiescent_KernelIdeal := quiet_ideal ▸ kernel_quiet Ideal

/-- The reference's frame: its run, read at the arguments; it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

end Cert.Proof
end
-- ==== Proof.Bincount.lean ====
/- The reference's count of labels: a vector of twenty counters, one added at each label's counter. -/
module

public import proofs.«01_k».proof.Proof.Gen.ReferenceIdeal.Run
public import Idealize.ShloMosaic.Lib.Routing.OpsPair
public import Idealize.ShloMosaic.Lib.Routing.OpsOne
public import Idealize.ShloMosaic.Lib.Routing.OpsSet

@[expose] public section

noncomputable section

namespace Cert.ReferenceIdeal.Count

open Cert.ReferenceIdeal Cert.ReferenceIdeal.Gen
open Idealize.ShloMosaic Idealize.ShloMosaic.ValueIdx Idealize.ShloMosaic.Routing

/-- The labels with negative ones raised to zero, and the index each one names (a negative index would
    count from the end). -/
def clipped (x : IVec S1x720x1280 32) : IVec S921600 32 :=
  maxsi (broadcastInDim S921600 ![] bcast_S_S921600 (id (constantI S_ 32 0#32)))
    (shapeCast S921600 x shapeCasts_S1x720x1280_S921600)

/-- The index each label names. -/
def index (x : IVec S1x720x1280 32) : IVec S921600 32 :=
  select (cmpi .slt (clipped x) (broadcastInDim S921600 ![] bcast_S_S921600 (constantI S_ 32 0#32)))
    (addi (clipped x) (broadcastInDim S921600 ![] bcast_S_S921600 (constantI S_ 32 20#32))) (clipped x)

/-- The twenty counts of a crop's labels. -/
def counts (x : IVec S1x720x1280 32) : IVec S20 32 :=
  Host.scatter scatter_S20_S921600x1_S921600_n_0_0_1 IntOp.addi
    (broadcastInDim S20 ![] bcast_S_S20 (constantI S_ 32 0#32))
    (broadcastInDim S921600x1 ![0] bcast_S921600_S921600x1_0 (index x))
    (broadcastInDim S921600 ![] bcast_S_S921600 (constantI S_ 32 1#32))

/-- The index a label names, read signed, is the positive `b` exactly when the label is `b`. -/
theorem index_eq (x : IVec S1x720x1280 32) (i : S921600.Idx) (b : ℕ) (h1 : 1 ≤ b) (h2 : b < 20) :
    (index x i).toInt = (b : ℤ) ↔ x (Shape.reshapeEquiv shapeCasts_S1x720x1280_S921600 i) = BitVec.ofNat 32 b := by
  have hc : clipped x i = IntOp.maxsi 0#32 (x (Shape.reshapeEquiv shapeCasts_S1x720x1280_S921600 i)) := rfl
  have hi : index x i = Scalar.select (IntOp.cmpi .slt (clipped x i) 0#32) (IntOp.addi (clipped x i) 20#32) (clipped x i) := rfl
  rw [hi, hc]
  generalize x (Shape.reshapeEquiv shapeCasts_S1x720x1280_S921600 i) = w
  have hz : (IntOp.maxsi 0#32 w).slt 0#32 = false := by
    unfold IntOp.maxsi
    split
    · rfl
    · rename_i h
      simp only [BitVec.slt, decide_eq_true_eq, decide_eq_false_iff_not] at h ⊢
      exact h
  rw [show IntOp.cmpi .slt (IntOp.maxsi 0#32 w) 0#32 = 0#1 from by
    show BitVec.ofBool ((IntOp.maxsi 0#32 w).slt 0#32) = 0#1
    rw [hz]; rfl]
  show (IntOp.maxsi 0#32 w).toInt = (b : ℤ) ↔ _
  have hb : (BitVec.ofNat 32 b).toInt = (b : ℤ) := StableHlo.Predicate.toInt_ofNat_small _ (by omega)
  unfold IntOp.maxsi
  split
  · rename_i h
    simp only [BitVec.slt, decide_eq_true_eq] at h
    constructor
    · intro e
      rw [show (0#32 : BitVec 32).toInt = 0 from rfl] at e
      omega
    · rintro rfl
      rw [hb, show (0#32 : BitVec 32).toInt = 0 from rfl] at h
      omega
  · rw [← hb]
    exact BitVec.toInt_inj

/-- Where an update lands: at the counter its index word names, read signed. -/
theorem lands (idx : IVec S921600x1 32) (i : Fin 921600) (c : Fin 20) :
    scatter_S20_S921600x1_S921600_n_0_0_1.resultIdx? (ix1 i) idx = some (ix1 c) ↔ (idx (ix2 i 0)).toInt = (c.val : ℤ) := by
  have hs : scatter_S20_S921600x1_S921600_n_0_0_1.start (ix1 i) idx 0 = (idx (ix2 i 0)).toInt := by
    refine congrArg (fun q => (idx q).toInt) (funext fun b => ?_)
    match b with
    | ⟨0, _⟩ => exact Fin.ext rfl
    | ⟨1, _⟩ => exact Fin.ext rfl
  have hw : scatter_S20_S921600x1_S921600_n_0_0_1.window (ix1 i) 0 = 0 := rfl
  rw [resultIdx?_eq_some]
  constructor
  · intro h
    have h0 := h 0
    rw [hs, hw] at h0
    exact (by simpa using h0 : (idx (ix2 i 0)).toInt = ((ix1 c (0 : Fin 1)).val : ℤ))
  · intro h a
    obtain rfl : a = 0 := Subsingleton.elim (α := Fin 1) _ _
    rw [hs, hw, h]
    exact add_zero _

/-- Counter `b`, for a label from 1 to 19: the number of entries of the crop that hold it. -/
theorem counts_apply (x : IVec S1x720x1280 32) (b : Fin 20) (h1 : 1 ≤ b.val) :
    counts x (ix1 b) = BitVec.ofNat 32 (Finset.univ.filter fun k => x k = BitVec.ofNat 32 b.val).card := by
  unfold counts
  rw [scatter_at]
  have key := foldl_count (ι := Fin S921600.numel) (I := Unit)
    (fun r n _ => if x (Shape.reshapeEquiv shapeCasts_S1x720x1280_S921600 (S921600.rowMajor.symm n)) = BitVec.ofNat 32 b.val
      then IntOp.addi (r ()) 1#32 else r ()) ()
    (fun n => decide (x (Shape.reshapeEquiv shapeCasts_S1x720x1280_S921600 (S921600.rowMajor.symm n)) = BitVec.ofNat 32 b.val))
    (fun r n => by simp only [decide_eq_true_eq]) (List.finRange S921600.numel) (fun _ => 0#32) 0 rfl
  have hh := (List.foldl_hom (fun r : Unit → BitVec 32 => r ())
    (g₁ := fun r n _ => if x (Shape.reshapeEquiv shapeCasts_S1x720x1280_S921600 (S921600.rowMajor.symm n)) = BitVec.ofNat 32 b.val
      then IntOp.addi (r ()) 1#32 else r ())
    (g₂ := fun a n => if scatter_S20_S921600x1_S921600_n_0_0_1.resultIdx? (S921600.rowMajor.symm n)
        (broadcastInDim S921600x1 ![0] bcast_S921600_S921600x1_0 (index x)) = some (ix1 b)
      then IntOp.addi a (broadcastInDim S921600 ![] bcast_S_S921600 (constantI S_ 32 1#32) (S921600.rowMajor.symm n)) else a)
    (l := List.finRange S921600.numel) (init := fun _ => 0#32) (fun r n => ?_))
  · have e0 : (broadcastInDim S20 ![] bcast_S_S20 (constantI S_ 32 0#32) : IVec S20 32) (ix1 b) = 0#32 := rfl
    beta_reduce at hh
    rw [e0, hh, key, Nat.zero_add]
    refine congrArg (BitVec.ofNat 32) ?_
    rw [List.countP_eq_length_filter]
    refine Eq.trans ?_ (Finset.card_equiv (s := Finset.univ.filter fun n : Fin S921600.numel =>
        x (Shape.reshapeEquiv shapeCasts_S1x720x1280_S921600 (S921600.rowMajor.symm n)) = BitVec.ofNat 32 b.val)
      (S921600.rowMajor.symm.trans (Shape.reshapeEquiv shapeCasts_S1x720x1280_S921600)) fun n => by
        simp only [Finset.mem_filter, Finset.mem_univ, true_and]; rfl)
    rw [← List.toFinset_card_of_nodup ((List.nodup_finRange _).filter _)]
    refine congrArg Finset.card ?_
    ext n
    simp
  · dsimp only
    have hl : scatter_S20_S921600x1_S921600_n_0_0_1.resultIdx? (S921600.rowMajor.symm n)
        (broadcastInDim S921600x1 ![0] bcast_S921600_S921600x1_0 (index x)) = some (ix1 b)
        ↔ x (Shape.reshapeEquiv shapeCasts_S1x720x1280_S921600 (S921600.rowMajor.symm n)) = BitVec.ofNat 32 b.val := by
      rw [← index_eq x _ b.val h1 b.isLt]
      have hn : (S921600.rowMajor.symm n : S921600.Idx) = ix1 (n.cast (numel1 921600)) := symm1 n
      rw [hn, lands]
      have : (broadcastInDim S921600x1 ![0] bcast_S921600_S921600x1_0 (index x)) (ix2 (n.cast (numel1 921600)) 0)
          = index x (ix1 (n.cast (numel1 921600))) := by
        refine congrArg (index x) (funext fun a => ?_)
        match a with
        | ⟨0, _⟩ => exact Fin.ext rfl
      rw [this]
    by_cases h : x (Shape.reshapeEquiv shapeCasts_S1x720x1280_S921600 (S921600.rowMajor.symm n)) = BitVec.ofNat 32 b.val
    · rw [if_pos h, if_pos (hl.2 h)]; rfl
    · rw [if_neg h, if_neg (fun q => h (hl.1 q))]

/-- Setting counter 0 leaves every other counter as it was. -/
theorem set_first {α : Type} (x y : S20.Idx → α) (z : S_.Idx → α)
    (h : ∀ b : Fin 20, 1 ≤ b.val → x (ix1 b) = y (ix1 b)) :
    Host.scatter scatter_S20_S1_S__n_0_0_0 (fun _ b => b) x (broadcastInDim S1 ![] bcast_S_S1 (constantI S_ 32 0#32)) z
      = Host.scatter scatter_S20_S1_S__n_0_0_0 (fun _ b => b) y (broadcastInDim S1 ![] bcast_S_S1 (constantI S_ 32 0#32)) z := by
  have hl : ∀ e : Fin 20, scatter_S20_S1_S__n_0_0_0.resultIdx? ix0 (broadcastInDim S1 ![] bcast_S_S1 (constantI S_ 32 0#32)) = some (ix1 e) ↔ e = 0 :=
    fun e => lands_one scatter_S20_S1_S__n_0_0_0 rfl rfl _ 0 rfl e
  funext i
  obtain ⟨e, rfl⟩ : ∃ e : Fin 20, i = ix1 e := ⟨i 0, eq_ix1 i⟩
  by_cases he : e = 0
  · have hv : ∀ k : S_.Idx, z k = z ix0 := fun k => congrArg z (funext fun a => a.elim0)
    rw [scatter_set_hit _ x _ z (ix1 e) (z ix0) (fun k _ => hv k) ix0 ((hl e).2 he),
      scatter_set_hit _ y _ z (ix1 e) (z ix0) (fun k _ => hv k) ix0 ((hl e).2 he)]
  · have hm : ∀ k : S_.Idx, scatter_S20_S1_S__n_0_0_0.resultIdx? k (broadcastInDim S1 ![] bcast_S_S1 (constantI S_ 32 0#32)) ≠ some (ix1 e) := fun k q => he ((hl e).1 (by
      rwa [show k = ix0 from funext fun a => a.elim0] at q))
    rw [scatter_set_miss _ x _ z (ix1 e) hm, scatter_set_miss _ y _ z (ix1 e) hm]
    exact h e (Nat.pos_of_ne_zero fun q => he (Fin.ext q))

end Cert.ReferenceIdeal.Count
-- ==== Proof.Count.lean ====
/- One row of the counting call: how many entries of a masked window hold each label, laid along the
   lanes of a row of 128. -/
module

public import proofs.«01_k».proof.Proof.HistRun
public import Idealize.ShloMosaic.Lib.IndicatorCount
public import Idealize.ShloMosaic.Lib.WordCmp
public import Idealize.ShloMosaic.Lib.Pipeline.Value
public import Idealize.ShloMosaic.Lib.ValueIdx

@[expose] public section

noncomputable section

namespace Cert.Kernel.Hist

open Cert.Kernel Cert.Kernel.Gen
open Idealize.ShloMosaic Idealize.ShloMosaic.ValueIdx

/-- The number of entries of `v` that equal `b`, as the kernel counts them: a sum of one-bit words
    widened to 32 bits. -/
def cnt (v : IVec S720x1408 32) (b : BitVec 32) : BitVec 32 :=
  extractAt ![0, 0, 0]
    (shapeCast S1x1x1
      (multiReductionI .add [1, 2] S1
        (shapeCast S1x720x1408 (extui 32 (cmpi .eq v (broadcast S720x1408 b)) natLt_1_32)
          shapeCasts_S720x1408_S1x720x1408)
        0#32 reduces_S1x720x1408_S1 rfl)
      shapeCasts_S1_S1x1x1)
    inpos_S1x1x1_p0_0_0

/-- The row after `n` labels: the value `k b` added at lane `b`, for `b` from 1 to `n`. -/
def laid (k : ℕ → BitVec 32) : ℕ → IVec S1x128 32
  | 0 => broadcast S1x128 0#32
  | n + 1 => addi (laid k n)
      (select (cmpi .eq (iota .tc S1x128 32 [1] iota_S1x128_d1_w32) (broadcast S1x128 (BitVec.ofNat 32 (n + 1))))
        (broadcast S1x128 (k (n + 1))) (broadcast S1x128 0#32))

/-- The row of the nineteen counts of `v`. -/
def lanes (v : IVec S720x1408 32) : IVec S1x128 32 := laid (fun b => cnt v (BitVec.ofNat 32 b)) 19

/-- A window of labels with every column outside `[lo, hi)` set to zero. -/
def masked (lo hi : BitVec 32) (x : IVec S720x1408 32) : IVec S720x1408 32 :=
  select
    (andi (cmpi .sge (iota .tc S720x1408 32 [1] iota_S720x1408_d1_w32) (broadcast S720x1408 lo))
      (cmpi .slt (iota .tc S720x1408 32 [1] iota_S720x1408_d1_w32) (broadcast S720x1408 hi)))
    x (broadcast S720x1408 0#32)

/-- The test for equality of two words is set exactly when they are equal. -/
theorem cmpi_eq_iff {w : ℕ} (a b : BitVec w) : IntOp.cmpi .eq a b = 1#1 ↔ a = b := by
  show BitVec.ofBool (a == b) = 1#1 ↔ a = b
  by_cases h : a = b
  · subst h; simp
  · rw [beq_eq_false_iff_ne.2 h]; exact ⟨fun q => absurd q (by decide), fun q => absurd q h⟩

/-- The kernel's count is the number of entries that equal the label. -/
theorem cnt_eq (v : IVec S720x1408 32) (b : BitVec 32) :
    cnt v b = BitVec.ofNat 32 (Finset.univ.filter fun i => v i = b).card := by
  unfold cnt extractAt shapeCast
  refine (multiReductionI_eq_fold .add _ _ _ _ _).trans ?_
  rw [Finset.filter_true_of_mem (fun i _ => funext fun a => Fin.ext (by
    have h1 : ∀ k : S1.Idx, (k a).val = 0 := fun k => by
      have := (k a).isLt
      have e : S1.size a = 1 := by fin_cases a; rfl
      omega
    rw [h1, h1]))]
  refine (IndicatorCount.fold_addi_setWidth_eq_card
    (fun k : S1x720x1408.Idx => IntOp.cmpi .eq (v (Shape.reshapeEquiv shapeCasts_S720x1408_S1x720x1408 k)) b) Finset.univ).trans ?_
  congr 1
  refine Finset.card_equiv (Shape.reshapeEquiv shapeCasts_S720x1408_S1x720x1408) fun k => ?_
  simp only [Finset.mem_filter, Finset.mem_univ, true_and]
  exact cmpi_eq_iff _ _

/-- Lane `l` of the row after `n` labels: the value laid there, where `l` is one of the labels 1 to `n`. -/
theorem laid_apply (k : ℕ → BitVec 32) (n : ℕ) (hn : n < 2 ^ 31) (l : Fin 128) :
    laid k n (ix2 0 l) = if 1 ≤ l.val ∧ l.val ≤ n then k l.val else 0#32 := by
  induction n with
  | zero =>
    rw [if_neg (by omega)]; rfl
  | succ n ih =>
    have e : ∀ b c : BitVec 32, ∀ r : IVec S1x128 32, addi r
        (select (cmpi .eq (iota .tc S1x128 32 [1] iota_S1x128_d1_w32) (broadcast S1x128 b)) (broadcast S1x128 c) (broadcast S1x128 0#32)) (ix2 0 l)
        = IntOp.addi (r (ix2 0 l)) (Scalar.select (IntOp.cmpi .eq (BitVec.ofNat 32 l.val) b) c 0#32) := fun b c r => by
      rw [show BitVec.ofNat 32 l.val = iota .tc S1x128 32 [1] iota_S1x128_d1_w32 (ix2 0 l) from
        (iota_single_apply .tc S1x128 32 1 iota_S1x128_d1_w32 (ix2 0 l)).symm]
      rfl
    rw [laid, e, ih (by omega)]
    have hl := l.isLt
    by_cases h : l.val = n + 1
    · rw [WordCmp.select_of_eq_one ((cmpi_eq_iff _ _).2 (by rw [h])), if_neg (by omega), if_pos (by omega), h]
      exact BitVec.zero_add _
    · have hne : IntOp.cmpi .eq (BitVec.ofNat 32 l.val) (BitVec.ofNat 32 (n + 1)) = 0#1 := by
        refine (WordCmp.cmpi_eq_ofNat_eq_zero_iff (by omega) (by omega)).2 h
      rw [WordCmp.select_of_eq_zero hne]
      refine (BitVec.add_zero _).trans ?_
      by_cases h' : 1 ≤ l.val ∧ l.val ≤ n
      · rw [if_pos h', if_pos (by omega)]
      · rw [if_neg h', if_neg (by omega)]

/-- Lane `l` of the row of counts, for a label 1 to 19: how many entries of `v` hold it. -/
theorem lanes_apply (v : IVec S720x1408 32) (l : Fin 128) (h1 : 1 ≤ l.val) (h2 : l.val ≤ 19) :
    lanes v (ix2 0 l) = BitVec.ofNat 32 (Finset.univ.filter fun i => v i = BitVec.ofNat 32 l.val).card := by
  unfold lanes
  rw [laid_apply _ 19 (by omega) l, if_pos ⟨h1, h2⟩, cnt_eq]

/-- A masked window at an index: the window's entry where the column lies in `[lo, hi)`, else zero. -/
theorem masked_apply (lo hi : ℕ) (hlo : lo < 2 ^ 31) (hhi : hi < 2 ^ 31) (x : IVec S720x1408 32) (r : Fin 720) (q : Fin 1408) :
    masked (BitVec.ofNat 32 lo) (BitVec.ofNat 32 hi) x (ix2 r q) = if lo ≤ q.val ∧ q.val < hi then x (ix2 r q) else 0#32 := by
  have e : masked (BitVec.ofNat 32 lo) (BitVec.ofNat 32 hi) x (ix2 r q)
      = Scalar.select (IntOp.andi (IntOp.cmpi .sge (BitVec.ofNat 32 q.val) (BitVec.ofNat 32 lo))
          (IntOp.cmpi .slt (BitVec.ofNat 32 q.val) (BitVec.ofNat 32 hi))) (x (ix2 r q)) 0#32 := by
    rw [show BitVec.ofNat 32 q.val = iota .tc S720x1408 32 [1] iota_S720x1408_d1_w32 (ix2 r q) from
      (iota_single_apply .tc S720x1408 32 1 iota_S720x1408_d1_w32 (ix2 r q)).symm]
    rfl
  have hq : q.val < 2 ^ (32 - 1) := by have := q.isLt; omega
  rw [e, WordCmp.cmpi_sge_ofNat hq hlo, WordCmp.cmpi_slt_ofNat hq hhi]
  by_cases h1 : lo ≤ q.val <;> by_cases h2 : q.val < hi <;> simp [h1, h2, Scalar.select, IntOp.andi]

end Cert.Kernel.Hist
-- ==== Proof.HistRows.lean ====
/- What the counting call leaves in its block: row `s` is the row of counts of the `s`-th masked window,
   and a window is read straight out of the label map. -/
module

public import proofs.«01_k».proof.Proof.Count
public import proofs.«01_k».proof.Proof.HistRegion
public import Idealize.ShloMosaic.Lib.ValueLayout

@[expose] public section

set_option maxRecDepth 16384

noncomputable section

namespace Cert.Kernel.Hist

open Cert.Kernel Cert.Kernel.Gen
open Idealize.ShloMosaic Idealize.ShloMosaic.TcCoe Idealize.ShloMosaic.Tactic Idealize.ShloMosaic.ValueIdx

variable {F : FTy → Type} [FloatOps F]

/-! ## The windows -/

/-- The crop's first column inside window `s`. -/
def lo : Fin 4 → ℕ := ![41, 111, 102, 127]

/-- The window of labels loaded for row `s`. -/
def loaded (c : Dev nD) (fh : LabBuf (F := F) c) (s : Fin 4) : IVec S720x1408 32 := match s with
  | ⟨0, _⟩ => run.sl.v6 c bufM0 fh
  | ⟨1, _⟩ => run.sl.v271 c bufM1 fh
  | ⟨2, _⟩ => run.sl.v536 c bufM0 fh
  | ⟨3, _⟩ => run.sl.v799 c bufM1 fh

/-- Row `s` of the block. -/
def row (c : Dev nD) (fh : LabBuf (F := F) c) (s : Fin 4) : IVec S1x128 32 :=
  lanes (masked (BitVec.ofNat 32 (lo s)) (BitVec.ofNat 32 (lo s + 1280)) (loaded c fh s))

theorem stored0 (c : Dev nD) (fh : LabBuf (F := F) c) :
    run.sl.v266 c bufM0 fh = shapeCast S1x1x128 (row c fh 0) shapeCasts_S1x128_S1x1x128 := by sl_kernel_rfl
theorem stored1 (c : Dev nD) (fh : LabBuf (F := F) c) :
    run.sl.v531 c bufM1 fh = shapeCast S1x1x128 (row c fh 1) shapeCasts_S1x128_S1x1x128 := by sl_kernel_rfl
theorem stored2 (c : Dev nD) (fh : LabBuf (F := F) c) :
    run.sl.v796 c bufM0 fh = shapeCast S1x1x128 (row c fh 2) shapeCasts_S1x128_S1x1x128 := by sl_kernel_rfl
theorem stored3 (c : Dev nD) (fh : LabBuf (F := F) c) :
    k0_pay1 run.sl.v15 (run.sl.r c bufM1 fh) (run.sl.r_1 c bufM1 fh) = shapeCast S1x1x128 (row c fh 3) shapeCasts_S1x128_S1x1x128 := by sl_kernel_rfl

/-! ## The block -/

/-- A row stored with a unit axis in front. -/
theorem stored_apply (u : IVec S1x128 32) (x : S1x1x128.Idx) :
    shapeCast S1x1x128 u shapeCasts_S1x128_S1x1x128 x = u (ix2 0 (x 2)) := by
  rw [shapeCast_addUnit_apply]
  refine congrArg u (funext fun a => ?_)
  match a with
  | ⟨0, _⟩ => exact Subsingleton.elim (α := Fin 1) _ _
  | ⟨1, _⟩ => rfl

/-- A stored row, seen as a part of the block. -/
theorem piece_apply (c : Dev nD) (fh : LabBuf (F := F) c) (s : Fin 4) (off : Fin 3 → ℕ) (h : off = ![s.val, 0, 0])
    (inb : ∀ a, off a + S1x1x128.size a ≤ S4x1x128.size a) (x : S1x1x128.Idx) :
    shapeCast S1x1x128 (row c fh s) shapeCasts_S1x128_S1x1x128 x
      = row c fh ((Rect.unit (s := S4x1x128) off S1x1x128.size inb).emb x 0) (ix2 0 ((Rect.unit (s := S4x1x128) off S1x1x128.size inb).emb x 2)) := by
  subst h
  have h0 : (Rect.unit (s := S4x1x128) ![s.val, 0, 0] S1x1x128.size inb).emb x 0 = s := Fin.ext (by
    rw [Rect.emb_apply]
    have : (x 0).val < 1 := (x 0).isLt
    show s.val + 1 * (x 0).val = s.val
    omega)
  have h2 : (Rect.unit (s := S4x1x128) ![s.val, 0, 0] S1x1x128.size inb).emb x 2 = x 2 := Fin.ext (by
    rw [Rect.emb_apply]
    show 0 + 1 * (x 2).val = (x 2).val
    omega)
  rw [h0, h2, stored_apply]

/-- The block after the point: row `s` is the row of counts of window `s`. -/
theorem out_apply (W : Dev nD → Valuation τ sig (Elt F)) (c : Dev nD) (t : Fin cfg0.N) (y : S4x1x128.Idx) :
    out W c t y = row c (V W c main_arg1) (y 0) (ix2 0 (y 2)) := by
  unfold out
  rw [View.read_writes_junk_eq_canon]
  refine View.canon_apply_of_pieces (Val := Elt F) (e := .i32) (fun y : S4x1x128.Idx => row c (V W c main_arg1) (y 0) (ix2 0 (y 2))) _ ?_ y
    (cover c _ _ _ _ _ _ _ y)
  unfold run
  dsimp only
  intro p hp x
  rcases List.mem_cons.1 hp with rfl | hp
  · exact (congrFun (stored3 c _) x).trans (piece_apply c _ 3 ![3, 0, 0] rfl inb_S4x1x128_S1x1x128_3_0_0 x)
  rcases List.mem_cons.1 hp with rfl | hp
  · exact (congrFun (stored2 c _) x).trans (piece_apply c _ 2 ![2, 0, 0] rfl inb_S4x1x128_S1x1x128_2_0_0 x)
  rcases List.mem_cons.1 hp with rfl | hp
  · exact (congrFun (stored1 c _) x).trans (piece_apply c _ 1 ![1, 0, 0] rfl inb_S4x1x128_S1x1x128_1_0_0 x)
  rcases List.mem_cons.1 hp with rfl | hp
  · exact (congrFun (stored0 c _) x).trans (piece_apply c _ 0 ![0, 0, 0] rfl inb_S4x1x128_S1x1x128_0_0_0 x)
  exact absurd hp List.not_mem_nil

/-! ## What a window holds -/

/-- A copied window of the label map at an index. -/
theorem copied_apply (c : Dev nD) (fh : LabBuf (F := F) c) (off : Fin 3 → ℕ) (inb : ∀ a, off a + S1x728x1408.size a ≤ S1x2160x3840.size a)
    (hr) (hq) (y : S728x1408.Idx) :
    View.read (Elt F) (((Memref.whole main_arg1).slice (Rect.unit (s := S1x2160x3840) off S1x728x1408.size inb) hr).squeeze S728x1408 hq).view fh y
      = fh ((Rect.unit (s := S1x2160x3840) off S1x728x1408.size inb).emb (ix3 0 (y 0) (y 1))) := by
  have e : View.read (Elt F) (((Memref.whole main_arg1).slice (Rect.unit (s := S1x2160x3840) off S1x728x1408.size inb) hr).squeeze S728x1408 hq).view fh y
      = fh ((Rect.unit (s := S1x2160x3840) off S1x728x1408.size inb).emb (Shape.reshapeEquiv hq.numel_eq y)) := rfl
  have hy : Shape.reshapeEquiv (hq.numel_eq : S728x1408.numel = S1x728x1408.numel) y = ix3 (0 : Fin 1) (y 0) (y 1) := by
    conv_lhs => rw [eq_ix2 y]
    exact reshapeEquiv_ix2_1ab _ _ _
  rw [e]
  exact congrArg (fun z => fh ((Rect.unit (s := S1x2160x3840) off S1x728x1408.size inb).emb z)) hy

/-- A window read back from a buffer that a copy has filled, at an index. -/
theorem window_apply (c : Dev nD) (fh : LabBuf (F := F) c) (v : View sig .tc .vmem S728x1408 .i32)
    (r0 c0 o : ℕ) (off : Fin 3 → ℕ) (hoff : off = ![0, r0, c0]) (inb : ∀ a, off a + S1x728x1408.size a ≤ S1x2160x3840.size a) (hr) (hq)
    (ld : Fin 2 → ℕ) (hld : ld = ![o, 0]) (inb' : ∀ a, ld a + S720x1408.size a ≤ S728x1408.size a)
    (L : List (View.Piece (Elt F) S728x1408 .i32)) (r : Fin 720) (q : Fin 1408)
    (a : Fin 2160) (b : Fin 3840) (h1 : r0 + o + r.val = a.val) (h2 : c0 + q.val = b.val) :
    v.readCov (⟨Rect.whole S728x1408, ReadAs.same.apply (View.read (Elt F)
        (((Memref.whole main_arg1).slice (Rect.unit (s := S1x2160x3840) off S1x728x1408.size inb) hr).squeeze S728x1408 hq).view fh)⟩ :: L)
        (Rect.unit (s := S728x1408) ld S720x1408.size inb').toLoadRect (ix2 r q)
      = fh (ix3 (0 : Fin 1) a b) := by
  subst hoff hld
  rw [View.readCov_eq_canon']
  have hc := View.canon_cons_unit_zero (Val := Elt F) (S := S728x1408) (e := .i32) (off := fun _ => 0) rfl (fun a => by omega)
    (ReadAs.same.apply (View.read (Elt F)
        (((Memref.whole main_arg1).slice (Rect.unit (s := S1x2160x3840) ![0, r0, c0] S1x728x1408.size inb) hr).squeeze S728x1408 hq).view fh)) L
  refine (congrFun hc _).trans ?_
  refine (copied_apply c fh _ inb hr hq _).trans ?_
  refine congrArg fh (funext fun x => Fin.ext ?_)
  rw [Rect.emb_apply]
  match x with
  | ⟨0, _⟩ => rfl
  | ⟨1, _⟩ => show r0 + 1 * (o + 1 * r.val) = a.val; omega
  | ⟨2, _⟩ => show c0 + 1 * (0 + 1 * q.val) = b.val; omega

/-- The first row of the crop of window `s` in the label map, and the window's first column there. -/
def top : Fin 4 → ℕ := ![564, 73, 133, 1175]
def edge : Fin 4 → ℕ := ![2176, 768, 2176, 128]

theorem top_lt (s : Fin 4) (r : Fin 720) : top s + r.val < 2160 := by
  have := r.isLt
  have h : top s ≤ 1175 := by fin_cases s <;> decide
  omega
theorem edge_lt (s : Fin 4) (q : Fin 1408) : edge s + q.val < 3840 := by
  have := q.isLt
  have h : edge s ≤ 2176 := by fin_cases s <;> decide
  omega

/-- The window loaded for row `s`, at an index: an entry of the label map. -/
theorem loaded_apply (c : Dev nD) (fh : LabBuf (F := F) c) (s : Fin 4) (r : Fin 720) (q : Fin 1408) :
    loaded c fh s (ix2 r q) = fh (ix3 (0 : Fin 1) (⟨top s + r.val, top_lt s r⟩ : Fin 2160) (⟨edge s + q.val, edge_lt s q⟩ : Fin 3840)) := by
  match s with
  | ⟨0, _⟩ =>
    show run.sl.v6 c bufM0 fh (ix2 r q) = _
    unfold run.sl.v6 run.sl.dma0
    exact window_apply c fh _ 560 2176 4 ![0, 560, 2176] rfl _ _ _ ![4, 0] rfl _ _ r q _ _ (by show 560 + 4 + r.val = 564 + r.val; omega) rfl
  | ⟨1, _⟩ =>
    show run.sl.v271 c bufM1 fh (ix2 r q) = _
    unfold run.sl.v271 run.sl.dma0_1
    exact window_apply c fh _ 72 768 1 ![0, 72, 768] rfl _ _ _ ![1, 0] rfl _ _ r q _ _ (by show 72 + 1 + r.val = 73 + r.val; omega) rfl
  | ⟨2, _⟩ =>
    show run.sl.v536 c bufM0 fh (ix2 r q) = _
    unfold run.sl.v536 run.sl.dma3
    exact window_apply c fh _ 128 2176 5 ![0, 128, 2176] rfl _ _ _ ![5, 0] rfl _ _ r q _ _ (by show 128 + 5 + r.val = 133 + r.val; omega) rfl
  | ⟨3, _⟩ =>
    show run.sl.v799 c bufM1 fh (ix2 r q) = _
    unfold run.sl.v799 run.sl.dma6
    exact window_apply c fh _ 1168 128 7 ![0, 1168, 128] rfl _ _ _ ![7, 0] rfl _ _ r q _ _ (by show 1168 + 7 + r.val = 1175 + r.val; omega) rfl

end Cert.Kernel.Hist
-- ==== Proof.HistCount.lean ====
/- The row of counts of a masked window is the row of counts of the crop it holds. -/
module

public import proofs.«01_k».proof.Proof.HistRows

@[expose] public section

set_option maxRecDepth 16384

noncomputable section

namespace Cert.Kernel.Hist

open Cert.Kernel Cert.Kernel.Gen
open Idealize.ShloMosaic Idealize.ShloMosaic.ValueIdx

variable {F : FTy → Type} [FloatOps F]

/-- The first column of crop `s` in the label map. -/
def left : Fin 4 → ℕ := ![2217, 879, 2278, 255]

theorem left_eq (s : Fin 4) : left s = edge s + lo s := by fin_cases s <;> rfl
theorem lo_le (s : Fin 4) : lo s ≤ 127 := by fin_cases s <;> decide
theorem left_lt (s : Fin 4) (q : Fin 1280) : left s + q.val < 3840 := by
  have := q.isLt
  have h : left s ≤ 2278 := by fin_cases s <;> decide
  omega

/-- Crop `s` of the label map. -/
def crop (L : S1x2160x3840.Idx → BitVec 32) (s : Fin 4) : IVec S1x720x1280 32 := fun k =>
  L (ix3 (0 : Fin 1) (⟨top s + (k 1).val, top_lt s (k 1)⟩ : Fin 2160) (⟨left s + (k 2).val, left_lt s (k 2)⟩ : Fin 3840))

/-- The masked window at an index. -/
theorem window_masked (c : Dev nD) (fh : LabBuf (F := F) c) (s : Fin 4) (r : Fin 720) (q : Fin 1408) :
    masked (BitVec.ofNat 32 (lo s)) (BitVec.ofNat 32 (lo s + 1280)) (loaded c fh s) (ix2 r q)
      = if lo s ≤ q.val ∧ q.val < lo s + 1280
        then fh (ix3 (0 : Fin 1) (⟨top s + r.val, top_lt s r⟩ : Fin 2160) (⟨edge s + q.val, edge_lt s q⟩ : Fin 3840)) else 0#32 := by
  have := lo_le s
  rw [masked_apply _ _ (by omega) (by omega), loaded_apply]

/-- A label other than zero occurs in the masked window as often as in the crop. -/
theorem card_eq (c : Dev nD) (fh : LabBuf (F := F) c) (s : Fin 4) (b : BitVec 32) (hb : b ≠ 0#32) :
    (Finset.univ.filter fun i => masked (BitVec.ofNat 32 (lo s)) (BitVec.ofNat 32 (lo s + 1280)) (loaded c fh s) i = b).card
      = (Finset.univ.filter fun k => crop fh s k = b).card := by
  have hlo := lo_le s
  have lt : ∀ k : S1x720x1280.Idx, lo s + (k 2).val < 1408 := fun k => by
    have : (k 2).val < 1280 := (k 2).isLt
    omega
  have hcr : ∀ k : S1x720x1280.Idx,
      masked (BitVec.ofNat 32 (lo s)) (BitVec.ofNat 32 (lo s + 1280)) (loaded c fh s) (ix2 (k 1 : Fin 720) (⟨lo s + (k 2).val, lt k⟩ : Fin 1408))
        = crop fh s k := fun k => by
    have h2 : (k 2).val < 1280 := (k 2).isLt
    refine (window_masked c fh s (k 1) ⟨lo s + (k 2).val, lt k⟩).trans ?_
    refine (if_pos ⟨Nat.le_add_right _ _, Nat.add_lt_add_left h2 _⟩).trans ?_
    unfold crop
    refine congrArg fh (congrArg (ix3 (0 : Fin 1) _) (Fin.ext ?_))
    show edge s + (lo s + (k 2).val) = left s + (k 2).val
    rw [left_eq]; omega
  symm
  refine Finset.card_bij (fun k _ => ix2 (k 1 : Fin 720) (⟨lo s + (k 2).val, lt k⟩ : Fin 1408)) ?_ ?_ ?_
  · intro k hk
    simp only [Finset.mem_filter, Finset.mem_univ, true_and] at hk ⊢
    exact (hcr k).trans hk
  · intro k _ k' _ h
    have h1 := congrArg (fun i : S720x1408.Idx => (i 0).val) h
    have h2 := congrArg (fun i : S720x1408.Idx => (i 1).val) h
    have h1' : (k 1).val = (k' 1).val := h1
    have h2' : lo s + (k 2).val = lo s + (k' 2).val := h2
    funext a
    match a with
    | ⟨0, _⟩ => exact Subsingleton.elim (α := Fin 1) _ _
    | ⟨1, _⟩ => exact Fin.ext h1'
    | ⟨2, _⟩ => exact Fin.ext (Nat.add_left_cancel h2')
  · intro i hi
    simp only [Finset.mem_filter, Finset.mem_univ, true_and] at hi
    obtain ⟨r, q, rfl⟩ : ∃ (r : Fin 720) (q : Fin 1408), i = ix2 r q := ⟨i 0, i 1, eq_ix2 i⟩
    by_cases h : lo s ≤ q.val ∧ q.val < lo s + 1280
    · have e : (ix2 ((ix3 (0 : Fin 1) r (⟨q.val - lo s, by omega⟩ : Fin 1280) : S1x720x1280.Idx) 1 : Fin 720)
          (⟨lo s + ((ix3 (0 : Fin 1) r (⟨q.val - lo s, by omega⟩ : Fin 1280) : S1x720x1280.Idx) 2).val, lt _⟩ : Fin 1408) : S720x1408.Idx) = ix2 r q :=
        congrArg (ix2 r) (Fin.ext (by show lo s + (q.val - lo s) = q.val; omega))
      refine ⟨ix3 (0 : Fin 1) r (⟨q.val - lo s, by omega⟩ : Fin 1280), ?_, e⟩
      simp only [Finset.mem_filter, Finset.mem_univ, true_and]
      exact (hcr _).symm.trans ((congrArg _ e).trans hi)
    · rw [window_masked, if_neg h] at hi
      exact absurd hi.symm hb

/-- Lane `l` of row `s`, for a label 1 to 19: how many entries of crop `s` hold it. -/
theorem row_apply (c : Dev nD) (fh : LabBuf (F := F) c) (s : Fin 4) (l : Fin 128) (h1 : 1 ≤ l.val) (h2 : l.val ≤ 19) :
    row c fh s (ix2 0 l) = BitVec.ofNat 32 (Finset.univ.filter fun k => crop fh s k = BitVec.ofNat 32 l.val).card := by
  unfold row
  rw [lanes_apply _ l h1 h2, card_eq c fh s _ fun q => by
    have q' := congrArg BitVec.toNat q
    rw [BitVec.toNat_ofNat] at q'
    have : (0#32 : BitVec 32).toNat = 0 := rfl
    omega]

end Cert.Kernel.Hist
-- ==== Proof.HistArray.lean ====
/- The array of counts the first call leaves, entry by entry. -/
module

public import proofs.«01_k».proof.Proof.HistCount
public import proofs.«01_k».proof.Proof.Run
public import Idealize.ShloMosaic.Lib.Pipeline.ValueKit

@[expose] public section

set_option maxRecDepth 16384

noncomputable section

namespace Cert.Kernel.Whole

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

theorem index0 : ∀ t : Fin cfg0.N, win0_0.index t = ![0, 0, 0] := (by decide +kernel : ∀ t : Fin grid0.N, win0_0.index t = ![0, 0, 0])

/-- The array of counts holds the four rows. -/
theorem hist_eq (c : Dev nD) : hist m c = fun y : S4x1x128.Idx => Hist.row c (V1 m c main_arg1) (y 0) (ValueIdx.ix2 0 (y 2)) := by
  unfold hist
  refine (Hist.dat (V1 m) c).arrAt_eq_of_covers (0 : Fin 1) (fun y : S4x1x128.Idx => Hist.row c (V1 m c main_arg1) (y 0) (ValueIdx.ix2 0 (y 2))) (by decide +kernel) fun t hf y => ?_
  blk_simp
  rw [Hist.dat_after, Hist.out_apply]
  have e : (win0_0.blk t).view.emb y = (y : S4x1x128.Idx) := by
    blk_ext [index0 t]
  rw [e]

/-- The label map is as launched when the first call runs. -/
theorem V1_arg1 (c : Dev nD) : V1 m c main_arg1 = m ((c : Thread nD τ).loc main_arg1) := by
  rw [V1_of m c main_arg1 (by decide)]

/-- The counts of a label 1 to 19 in row `s`. -/
theorem hist_apply (c : Dev nD) (s : Fin 4) (l : Fin 128) (h1 : 1 ≤ l.val) (h2 : l.val ≤ 19) :
    hist m c (ValueIdx.ix3 s (0 : Fin 1) l)
      = BitVec.ofNat 32 (Finset.univ.filter fun k => Hist.crop (m ((c : Thread nD τ).loc main_arg1)) s k = BitVec.ofNat 32 l.val).card := by
  rw [hist_eq]
  show Hist.row c (V1 m c main_arg1) s (ValueIdx.ix2 0 l) = _
  rw [Hist.row_apply c _ s l h1 h2, V1_arg1]

end Cert.Kernel.Whole
-- ==== Proof.CropValue.lean ====
/- What the cropping call stores: the aligned window that it loads, rolled back by the distance between
   the window's corner and the crop's, is the crop. -/
module

public import proofs.«01_k».proof.Proof.HistCount
public import proofs.«01_k».proof.Proof.CropRegion
public import Idealize.ShloMosaic.Lib.Pipeline.Value

@[expose] public section

set_option maxRecDepth 16384

noncomputable section

namespace Cert.Kernel.Crop

open Cert.Kernel Cert.Kernel.Gen
open Idealize.ShloMosaic Idealize.ShloMosaic.TcCoe Idealize.ShloMosaic.Tactic Idealize.ShloMosaic.ValueIdx

variable {F : FTy → Type} [FloatOps F]

/-! ## Rolling a window -/

/-- A window rolled by `n` rows and `p` columns, its upper left part. -/
def piece {e : EltTy} (n p : BitVec 32) (x : Vec F S728x1408 e) : Vec F S1x720x1280 e :=
  shapeCast S1x720x1280 (extractStridedSlice S720x1280 ![0, 0]
    (dynamicRotate 1 p none (dynamicRotate 0 n none x rotates_S728x1408_d0) rotates_S728x1408_d1) slices_S728x1408_o0_0_S720x1280) shapeCasts_S720x1280_S1x720x1280

/-- By how much a window with its corner at `b` is rolled so that the crop's corner `v` comes first. -/
def turn (size v b : BitVec 32) : BitVec 32 :=
  let d := Scalar.select (Scalar.cmpi .eq size 0#32) 1#32 size
  let r := Scalar.remsi (Scalar.subi size (Scalar.subi v b)) d
  Scalar.select (Scalar.andi (Scalar.xori (Scalar.cmpi .slt r 0#32) (Scalar.cmpi .slt d 0#32)) (Scalar.cmpi .ne r 0#32)) (Scalar.addi r d) r

theorem labels_piece (v0 v1 v20 v38 : BitVec 32) (x : Vec F S728x1408 .i32) :
    k1_pay2 (F := F) v0 v1 v20 v38 x = piece (turn 728#32 v0 v20) (turn 1408#32 v1 (Scalar.minsi v38 2432#32)) x := rfl
theorem image_piece (v0 v1 v20 v38 : BitVec 32) (x : Vec F S728x1408 .f32) :
    k1_pay1 (F := F) (k1_pay3 (F := F) v0 v1 v20 v38 x) = piece (turn 728#32 v0 v20) (turn 1408#32 v1 (Scalar.minsi v38 2432#32)) x := rfl

/-- The rolled window at an index: the window at that index moved on. -/
theorem piece_apply {e : EltTy} (n p : BitVec 32) (ro co : ℕ) (hn : n.toNat = 728 - ro) (hp : p.toNat = 1408 - co)
    (hr : 1 ≤ ro ∧ ro ≤ 8) (hc : 1 ≤ co ∧ co ≤ 128) (x : Vec F S728x1408 e) (k : S1x720x1280.Idx) (a : Fin 728) (b : Fin 1408)
    (ha : a.val = ro + (k 1).val) (hb : b.val = co + (k 2).val) : piece n p x k = x (ix2 a b) := by
  have h1 : (k 1).val < 720 := (k 1).isLt
  have h2 : (k 2).val < 1280 := (k 2).isLt
  unfold piece
  rw [shapeCast_addUnit_apply]
  refine (extractStridedSlice_apply ![0, 0] _ _ _ (ix2 (⟨(k 1).val, by omega⟩ : Fin 728) (⟨(k 2).val, by omega⟩ : Fin 1408)) fun z => ?_).trans ?_
  · match z with
    | ⟨0, _⟩ => show (k 1).val = 0 + (k 1).val; omega
    | ⟨1, _⟩ => show (k 2).val = 0 + (k 2).val; omega
  · unfold dynamicRotate
    refine congrArg x (funext fun z => Fin.ext ?_)
    match z with
    | ⟨0, _⟩ => show ((k 1).val + 728 - n.toNat % 728) % 728 = a.val; omega
    | ⟨1, _⟩ => show ((k 2).val + 1408 - p.toNat % 1408) % 1408 = b.val; omega

/-! ## The window -/

/-- A copied window of one channel of the image, at an index. -/
theorem copied_apply (c : Dev nD) (fi : ImgBuf (F := F) c) (off : Fin 3 → ℕ) (inb : ∀ a, off a + S1x728x1408.size a ≤ S3x2160x3840.size a)
    (hr) (hq) (y : S728x1408.Idx) :
    View.read (Elt F) (((Memref.whole main_arg0).slice (Rect.unit (s := S3x2160x3840) off S1x728x1408.size inb) hr).squeeze S728x1408 hq).view fi y
      = fi ((Rect.unit (s := S3x2160x3840) off S1x728x1408.size inb).emb (ix3 0 (y 0) (y 1))) := by
  have e : View.read (Elt F) (((Memref.whole main_arg0).slice (Rect.unit (s := S3x2160x3840) off S1x728x1408.size inb) hr).squeeze S728x1408 hq).view fi y
      = fi ((Rect.unit (s := S3x2160x3840) off S1x728x1408.size inb).emb (Shape.reshapeEquiv hq.numel_eq y)) := rfl
  have hy : Shape.reshapeEquiv (hq.numel_eq : S728x1408.numel = S1x728x1408.numel) y = ix3 (0 : Fin 1) (y 0) (y 1) := by
    conv_lhs => rw [eq_ix2 y]
    exact reshapeEquiv_ix2_1ab _ _ _
  rw [e]
  exact congrArg (fun z => fi ((Rect.unit (s := S3x2160x3840) off S1x728x1408.size inb).emb z)) hy

/-- A buffer filled by one copy, read whole. -/
theorem filled_apply {e : EltTy} (v : View sig .tc .vmem S728x1408 e) (x : Vec F S728x1408 e) (L : List (View.Piece (Elt F) S728x1408 e))
    (inb : ∀ a, (![0, 0] : Fin 2 → ℕ) a + S728x1408.size a ≤ S728x1408.size a) (y : S728x1408.Idx) :
    v.readCov (⟨Rect.whole S728x1408, x⟩ :: L) (Rect.unit (s := S728x1408) ![0, 0] S728x1408.size inb).toLoadRect y = x y := by
  rw [View.readCov_eq_canon']
  have hc := View.canon_cons_unit_zero (Val := Elt F) (S := S728x1408) (e := e) (off := fun _ => 0) rfl (fun a => by omega) x L
  refine (congrFun hc _).trans (congrArg x (funext fun z => Fin.ext ?_))
  show ((Rect.unit (s := S728x1408) ![0, 0] S728x1408.size inb).emb y z).val = (y z).val
  rw [Rect.emb_apply]
  match z with
  | ⟨0, _⟩ => show 0 + 1 * (y 0).val = (y 0).val; omega
  | ⟨1, _⟩ => show 0 + 1 * (y 1).val = (y 1).val; omega

/-! ## The four corners -/

/-- The aligned row and column of corner `s`, and the corner's distance from them. -/
def row0 : Fin 4 → ℕ := ![560, 72, 128, 1168]
def rowBy : Fin 4 → ℕ := ![4, 1, 5, 7]

theorem top_split (s : Fin 4) : Hist.top s = row0 s + rowBy s := by fin_cases s <;> rfl
theorem offsets (s : Fin 4) : k1_off2 (lit0 s) (lit1 s) = ![0, row0 s, Hist.edge s] := by
  revert s; decide +kernel
theorem offsets_img (i : grid1.Coords) (s : Fin 4) : k1_off1 i (lit0 s) (lit1 s) = ![(i 0).val, row0 s, Hist.edge s] := by
  revert i s; decide +kernel
theorem turn_row (s : Fin 4) : (turn 728#32 (lit0 s) (BitVec.ofNat 32 (row0 s))).toNat = 728 - rowBy s := by
  revert s; decide +kernel
theorem turn_col (s : Fin 4) : (turn 1408#32 (lit1 s) (BitVec.ofNat 32 (Hist.edge s))).toNat = 1408 - Hist.lo s := by
  revert s; decide +kernel
theorem rowBy_le (s : Fin 4) : 1 ≤ rowBy s ∧ rowBy s ≤ 8 := by fin_cases s <;> decide
theorem lo_range (s : Fin 4) : 1 ≤ Hist.lo s ∧ Hist.lo s ≤ 128 := by fin_cases s <;> decide

theorem eq_ofNat (x : BitVec 32) (n : ℕ) (h : x.toNat = n) : x = BitVec.ofNat 32 n := by
  subst h; exact (BitVec.ofNat_toNat 32 x).symm ▸ (BitVec.setWidth_eq x).symm

variable {c : Dev nD} {xt : TabBuf (F := F) c} {s : Fin 4}

theorem alignA (ht : topW xt = lit0 s) (hl : leftW xt = lit1 s) :
    runA.sl.v20 c xt = BitVec.ofNat 32 (row0 s) ∧ Scalar.minsi (runA.sl.v38 c xt) 2432#32 = BitVec.ofNat 32 (Hist.edge s) := by
  have h := offsets s
  rw [← ht, ← hl] at h
  exact ⟨eq_ofNat _ _ (congrFun h 1), eq_ofNat _ _ (congrFun h 2)⟩
theorem alignB (ht : topW xt = lit0 s) (hl : leftW xt = lit1 s) :
    runB.sl.v20 c xt = BitVec.ofNat 32 (row0 s) ∧ Scalar.minsi (runB.sl.v38 c xt) 2432#32 = BitVec.ofNat 32 (Hist.edge s) := by
  have h := offsets s
  rw [← ht, ← hl] at h
  exact ⟨eq_ofNat _ _ (congrFun h 1), eq_ofNat _ _ (congrFun h 2)⟩

/-- Rolled by the corner's distances, a window is read at the crop's place. -/
theorem piece_corner {e : EltTy} (s : Fin 4) (v0 v1 v20 v39 : BitVec 32) (h0 : v0 = lit0 s) (h1 : v1 = lit1 s)
    (h20 : v20 = BitVec.ofNat 32 (row0 s)) (h39 : v39 = BitVec.ofNat 32 (Hist.edge s)) (x : Vec F S728x1408 e) (k : S1x720x1280.Idx)
    (a : Fin 728) (b : Fin 1408) (ha : a.val = rowBy s + (k 1).val) (hb : b.val = Hist.lo s + (k 2).val) :
    piece (turn 728#32 v0 v20) (turn 1408#32 v1 v39) x k = x (ix2 a b) := by
  subst h0 h1 h20 h39
  exact piece_apply _ _ _ _ (turn_row s) (turn_col s) (rowBy_le s) (lo_range s) x k a b ha hb

/-- The place of a window that an index of the crop falls on. -/
def rowAt (s : Fin 4) (k : S1x720x1280.Idx) : Fin 728 := ⟨rowBy s + (k 1).val, by
  have h1 : (k 1).val < 720 := (k 1).isLt
  have := rowBy_le s; omega⟩
def colAt (s : Fin 4) (k : S1x720x1280.Idx) : Fin 1408 := ⟨Hist.lo s + (k 2).val, by
  have h1 : (k 2).val < 1280 := (k 2).isLt
  have := lo_range s; omega⟩

/-- The copied label window at a place of the crop. -/
theorem label_at (fl : LabBuf (F := F) c) (off : Fin 3 → ℕ) (hoff : off = ![0, row0 s, Hist.edge s])
    (inb : ∀ a, off a + S1x728x1408.size a ≤ S1x2160x3840.size a) (hr) (hq) (k : S1x720x1280.Idx) :
    View.read (Elt F) (((Memref.whole main_arg1).slice (Rect.unit (s := S1x2160x3840) off S1x728x1408.size inb) hr).squeeze S728x1408 hq).view fl (ix2 (rowAt s k) (colAt s k))
      = Hist.crop fl s k := by
  subst hoff
  refine (Hist.copied_apply c fl _ inb hr hq _).trans ?_
  refine congrArg fl (funext fun x => Fin.ext ?_)
  rw [Rect.emb_apply]
  match x with
  | ⟨0, _⟩ => rfl
  | ⟨1, _⟩ => show row0 s + 1 * (rowBy s + (k 1).val) = Hist.top s + (k 1).val; rw [top_split]; omega
  | ⟨2, _⟩ => show Hist.edge s + 1 * (Hist.lo s + (k 2).val) = Hist.left s + (k 2).val; rw [Hist.left_eq]; omega

/-- Crop `s` of the image. -/
def shot (I : S3x2160x3840.Idx → Elt F .f32) (s : Fin 4) : Vec F S3x720x1280 .f32 := fun k =>
  I (ix3 (k 0 : Fin 3) (⟨Hist.top s + (k 1).val, Hist.top_lt s (k 1)⟩ : Fin 2160) (⟨Hist.left s + (k 2).val, Hist.left_lt s (k 2)⟩ : Fin 3840))

/-- The copied window of channel `n` at a place of the crop. -/
theorem image_at (fi : ImgBuf (F := F) c) (n : Fin 3) (off : Fin 3 → ℕ) (hoff : off = ![n.val, row0 s, Hist.edge s])
    (inb : ∀ a, off a + S1x728x1408.size a ≤ S3x2160x3840.size a) (hr) (hq) (k : S1x720x1280.Idx) :
    View.read (Elt F) (((Memref.whole main_arg0).slice (Rect.unit (s := S3x2160x3840) off S1x728x1408.size inb) hr).squeeze S728x1408 hq).view fi (ix2 (rowAt s k) (colAt s k))
      = shot fi s (ix3 n (k 1 : Fin 720) (k 2 : Fin 1280)) := by
  subst hoff
  refine (copied_apply c fi _ inb hr hq _).trans ?_
  refine congrArg fi (funext fun x => Fin.ext ?_)
  rw [Rect.emb_apply]
  match x with
  | ⟨0, _⟩ => show n.val + 1 * 0 = n.val; omega
  | ⟨1, _⟩ => show row0 s + 1 * (rowBy s + (k 1).val) = Hist.top s + (k 1).val; rw [top_split]; omega
  | ⟨2, _⟩ => show Hist.edge s + 1 * (Hist.lo s + (k 2).val) = Hist.left s + (k 2).val; rw [Hist.left_eq]; omega

/-! ## The blocks -/

/-- One whole store, read back. -/
theorem store_read {e : EltTy} (v : View sig .tc .vmem S1x720x1280 e) (x : Vec F S1x720x1280 e)
    (inb : ∀ a, (![0, 0, 0] : Fin 3 → ℕ) a + S1x720x1280.size a ≤ S1x720x1280.size a) (k : S1x720x1280.Idx) :
    v.read (Elt F) (v.writes (Elt F) v.junk [⟨Rect.unit (s := S1x720x1280) ![0, 0, 0] S1x720x1280.size inb, x⟩]) k = x k := by
  rw [View.read_writes_junk_eq_canon]
  exact congrFun (View.canon_cons_unit_zero (Val := Elt F) (S := S1x720x1280) (e := e) (off := ![0, 0, 0]) (by decide) inb x []) k

variable (W : Dev nD → Valuation τ sig (Elt F)) (a : (pcfg1 (F := F)).Adm) (hw : Fits a)

/-- The label block is the crop of the label map. -/
theorem outL_apply (c : Dev nD) (s : Fin 4) (ht : topW (c := c) (a.1 0) = lit0 s) (hl : leftW (c := c) (a.1 0) = lit1 s) (k : S1x720x1280.Idx) :
    outL W a hw c k = Hist.crop (V W c main_arg1) s k := by
  unfold outL
  unfold runA
  dsimp only
  refine (store_read _ _ _ k).trans ?_
  rw [labels_piece]
  refine (piece_corner s _ _ _ _ ht hl (alignA ht hl).1 (alignA ht hl).2 _ k (rowAt s k) (colAt s k) rfl rfl).trans ?_
  unfold runA.sl.v82
  refine (filled_apply _ _ _ _ _).trans ?_
  unfold runA.sl.dma2_1
  refine label_at (s := s) (V W c main_arg1) _ ?_ _ _ _ k
  show k1_off2 (topW (c := c) (a.1 0)) (leftW (c := c) (a.1 0)) = _
  rw [ht, hl, offsets]

theorem coord_val (t : Fin grid1.N) : (grid1.coords t 0).val = t.val := by
  have ht : t.val < 3 := Nat.lt_of_lt_of_eq t.isLt N_1
  have e0 : (grid1.coords t 0).val = t.val / 1 % 3 := Pipeline.Grid.coords_val t 0 (by decide) rfl
  omega

/-- The image block after a point is that channel of the image's crop. -/
theorem outI_apply (c : Dev nD) (s : Fin 4) (ht : topW (c := c) (a.1 0) = lit0 s) (hl : leftW (c := c) (a.1 0) = lit1 s)
    (t : Fin (cfg1 a).N) (n : Fin 3) (hn : n.val = t.val) (k : S1x720x1280.Idx) :
    outI W a hw c t k = shot (V W c main_arg0) s (ix3 n (k 1 : Fin 720) (k 2 : Fin 1280)) := by
  have hoff : k1_off1 (grid1.coords t) (topW (c := c) (a.1 0)) (leftW (c := c) (a.1 0)) = ![n.val, row0 s, Hist.edge s] := by
    rw [ht, hl, offsets_img, hn, coord_val t]
  unfold outI
  split_ifs with h
  · unfold runA
    dsimp only
    refine (store_read _ _ _ k).trans ?_
    unfold runA.sl.r_2
    rw [image_piece]
    refine (piece_corner s _ _ _ _ ht hl (alignA ht hl).1 (alignA ht hl).2 _ k (rowAt s k) (colAt s k) rfl rfl).trans ?_
    unfold runA.sl.v71
    refine (filled_apply _ _ _ _ _).trans ?_
    unfold runA.sl.dma2
    exact image_at (s := s) (V W c main_arg0) n _ hoff _ _ _ k
  · unfold runB
    dsimp only
    refine (store_read _ _ _ k).trans ?_
    unfold runB.sl.r_2
    rw [image_piece]
    refine (piece_corner s _ _ _ _ ht hl (alignB ht hl).1 (alignB ht hl).2 _ k (rowAt s k) (colAt s k) rfl rfl).trans ?_
    unfold runB.sl.v71
    refine (filled_apply _ _ _ _ _).trans ?_
    unfold runB.sl.dma2
    exact image_at (s := s) (V W c main_arg0) n _ hoff _ _ _ k

end Cert.Kernel.Crop
-- ==== Proof.Costs.lean ====
/- The reference's crops and costs are the kernel's: a slice at a corner is the crop there, and the
   counts on both sides are the numbers of entries of the crop that hold each label. -/
module

public import proofs.«01_k».proof.Proof.Bincount
public import proofs.«01_k».proof.Proof.HistArray
public import proofs.«01_k».proof.Proof.CropValue
public import proofs.«01_k».proof.Proof.Table
public import Idealize.ShloMosaic.Lib.DynamicIndex

@[expose] public section

set_option maxRecDepth 16384

noncomputable section

namespace Cert.Proof

open Idealize.ShloMosaic Idealize.ShloMosaic.TcCoe Idealize.ShloMosaic.ValueIdx
open Cert.Kernel.Choice (Costs)

/-! ## The reference's slices -/

variable {F : FTy → Type} [FloatOps F]

/-- A slice of the label map at corner `s`. -/
theorem slice_label (s : Fin 4) (L : IVec Cert.ReferenceIdeal.S1x2160x3840 32) (start : Fin 3 → ℤ)
    (hs : start = ![0, (Cert.Kernel.Hist.top s : ℤ), (Cert.Kernel.Hist.left s : ℤ)]) (hf) :
    Host.dynamicSlice Cert.ReferenceIdeal.S1x720x1280 L start hf = Cert.Kernel.Hist.crop L s := by
  subst hs
  have hfit : Cert.ReferenceIdeal.S1x2160x3840.Slices ![0, Cert.Kernel.Hist.top s, Cert.Kernel.Hist.left s] Cert.ReferenceIdeal.S1x720x1280 := by
    revert s; decide +kernel
  rw [Host.dynamicSlice_eq_extractStridedSlice _ L _ ![0, Cert.Kernel.Hist.top s, Cert.Kernel.Hist.left s] hf hfit (fun a => by
    match a with
    | ⟨0, _⟩ => rfl
    | ⟨1, _⟩ => rfl
    | ⟨2, _⟩ => rfl)]
  funext k
  refine extractStridedSlice_apply _ L _ k _ fun a => ?_
  match a with
  | ⟨0, _⟩ => exact (Nat.zero_add _).symm.trans (congrArg (0 + ·) (show 0 = (k 0).val from (Nat.lt_one_iff.mp (k 0).isLt).symm))
  | ⟨1, _⟩ => rfl
  | ⟨2, _⟩ => rfl

/-- A slice of the image at corner `s`. -/
theorem slice_image (s : Fin 4) (I : FVec F Cert.ReferenceIdeal.S3x2160x3840 .f32) (start : Fin 3 → ℤ)
    (hs : start = ![0, (Cert.Kernel.Hist.top s : ℤ), (Cert.Kernel.Hist.left s : ℤ)]) (hf) :
    Host.dynamicSlice Cert.ReferenceIdeal.S3x720x1280 I start hf = Cert.Kernel.Crop.shot (F := F) I s := by
  subst hs
  have hfit : Cert.ReferenceIdeal.S3x2160x3840.Slices ![0, Cert.Kernel.Hist.top s, Cert.Kernel.Hist.left s] Cert.ReferenceIdeal.S3x720x1280 := by
    revert s; decide +kernel
  rw [Host.dynamicSlice_eq_extractStridedSlice _ I _ ![0, Cert.Kernel.Hist.top s, Cert.Kernel.Hist.left s] hf hfit (fun a => by
    match a with
    | ⟨0, _⟩ => rfl
    | ⟨1, _⟩ => rfl
    | ⟨2, _⟩ => rfl)]
  funext k
  refine extractStridedSlice_apply _ I _ k _ fun a => ?_
  match a with
  | ⟨0, _⟩ => exact (Nat.zero_add _).symm
  | ⟨1, _⟩ => rfl
  | ⟨2, _⟩ => rfl

section
open Cert.ReferenceIdeal Cert.ReferenceIdeal.Value
variable (V0 : Valuation τ sig (Elt F))

theorem ref_crop0 : res_main_v1 V0 = Cert.Kernel.Hist.crop (V0 (Proc.devRef .tc main_arg1)) 0 := by
  unfold res_main_v1
  exact slice_label 0 _ _ (by funext a; match a with | ⟨0, _⟩ => rfl | ⟨1, _⟩ => rfl | ⟨2, _⟩ => rfl) _
theorem ref_crop1 : res_main_v29 V0 = Cert.Kernel.Hist.crop (V0 (Proc.devRef .tc main_arg1)) 1 := by
  unfold res_main_v29
  exact slice_label 1 _ _ (by funext a; match a with | ⟨0, _⟩ => rfl | ⟨1, _⟩ => rfl | ⟨2, _⟩ => rfl) _
theorem ref_crop2 : res_main_v61 V0 = Cert.Kernel.Hist.crop (V0 (Proc.devRef .tc main_arg1)) 2 := by
  unfold res_main_v61
  exact slice_label 2 _ _ (by funext a; match a with | ⟨0, _⟩ => rfl | ⟨1, _⟩ => rfl | ⟨2, _⟩ => rfl) _
theorem ref_crop3 : res_main_v93 V0 = Cert.Kernel.Hist.crop (V0 (Proc.devRef .tc main_arg1)) 3 := by
  unfold res_main_v93
  exact slice_label 3 _ _ (by funext a; match a with | ⟨0, _⟩ => rfl | ⟨1, _⟩ => rfl | ⟨2, _⟩ => rfl) _
end

/-! ## The costs -/

/-- What a crop costs by the reference's counts of its labels. -/
def worth (lc : FVec F Cert.Kernel.S20 .f32) (x : IVec Cert.ReferenceIdeal.S1x720x1280 32) : FVec F Cert.Kernel.S_ .f32 :=
  Cert.Kernel.Choice.cost lc (Cert.ReferenceIdeal.Count.counts x)

section
open Cert.ReferenceIdeal Cert.ReferenceIdeal.Value
variable (V0 : Valuation τ sig (Elt F))

theorem ref_bins0 : res_main_v15 V0 = Cert.Kernel.Choice.bins (Count.counts (res_main_v1 V0)) := by
  unfold res_main_v15 res_main_v4; generalize res_main_v1 V0 = x; rfl
theorem ref_cost0 : res_main_v27 V0 = worth (V0 (Proc.devRef .tc main_arg2)) (Cert.Kernel.Hist.crop (V0 (Proc.devRef .tc main_arg1)) 0) := by
  rw [← ref_crop0]
  unfold res_main_v27 worth Cert.Kernel.Choice.cost Cert.Kernel.Choice.norm
  rw [ref_bins0]
theorem ref_bins1 : res_main_v43 V0 = Cert.Kernel.Choice.bins (Count.counts (res_main_v29 V0)) := by
  unfold res_main_v43 res_main_v32; generalize res_main_v29 V0 = x; rfl
theorem ref_cost1 : res_main_v55 V0 = worth (V0 (Proc.devRef .tc main_arg2)) (Cert.Kernel.Hist.crop (V0 (Proc.devRef .tc main_arg1)) 1) := by
  rw [← ref_crop1]
  unfold res_main_v55 worth Cert.Kernel.Choice.cost Cert.Kernel.Choice.norm
  rw [ref_bins1]
theorem ref_bins2 : res_main_v75 V0 = Cert.Kernel.Choice.bins (Count.counts (res_main_v61 V0)) := by
  unfold res_main_v75 res_main_v64; generalize res_main_v61 V0 = x; rfl
theorem ref_cost2 : res_main_v87 V0 = worth (V0 (Proc.devRef .tc main_arg2)) (Cert.Kernel.Hist.crop (V0 (Proc.devRef .tc main_arg1)) 2) := by
  rw [← ref_crop2]
  unfold res_main_v87 worth Cert.Kernel.Choice.cost Cert.Kernel.Choice.norm
  rw [ref_bins2]
theorem ref_bins3 : res_main_v107 V0 = Cert.Kernel.Choice.bins (Count.counts (res_main_v93 V0)) := by
  unfold res_main_v107 res_main_v96; generalize res_main_v93 V0 = x; rfl
theorem ref_cost3 : res_main_v119 V0 = worth (V0 (Proc.devRef .tc main_arg2)) (Cert.Kernel.Hist.crop (V0 (Proc.devRef .tc main_arg1)) 3) := by
  rw [← ref_crop3]
  unfold res_main_v119 worth Cert.Kernel.Choice.cost Cert.Kernel.Choice.norm
  rw [ref_bins3]

/-- The reference's four costs. -/
def refCosts : Costs F where
  c0 := worth (V0 (Proc.devRef .tc main_arg2)) (Cert.Kernel.Hist.crop (V0 (Proc.devRef .tc main_arg1)) 0)
  c1 := worth (V0 (Proc.devRef .tc main_arg2)) (Cert.Kernel.Hist.crop (V0 (Proc.devRef .tc main_arg1)) 1)
  c2 := worth (V0 (Proc.devRef .tc main_arg2)) (Cert.Kernel.Hist.crop (V0 (Proc.devRef .tc main_arg1)) 2)
  c3 := worth (V0 (Proc.devRef .tc main_arg2)) (Cert.Kernel.Hist.crop (V0 (Proc.devRef .tc main_arg1)) 3)

theorem ref_p1 : res_main_v56 V0 = (refCosts V0).p1 := by
  unfold res_main_v56; rw [ref_cost0, ref_cost1]; rfl
theorem ref_b1 : res_main_v59 V0 = (refCosts V0).b1 := by
  unfold res_main_v59; rw [ref_p1, ref_cost0, ref_cost1]; rfl
theorem ref_p2 : res_main_v88 V0 = (refCosts V0).p2 := by
  unfold res_main_v88; rw [ref_b1, ref_cost2]; rfl
theorem ref_b2 : res_main_v91 V0 = (refCosts V0).b2 := by
  unfold res_main_v91; rw [ref_p2, ref_b1, ref_cost2]; rfl
theorem ref_p3 : res_main_v120 V0 = (refCosts V0).p3 := by
  unfold res_main_v120; rw [ref_b2, ref_cost3]; rfl
theorem ref_b3 : select (res_main_v120 V0) (res_main_v119 V0) (res_main_v91 V0) = (refCosts V0).b3 := by
  rw [ref_p3, ref_b2, ref_cost3]; rfl
end

/-! ## The kernel's costs -/

section
open Cert.Kernel Cert.Kernel.Gen Cert.Kernel.Whole

/-- The first bin does not count. -/
theorem cost_eq (lc : FVec F S20 .f32) (h h' : IVec S20 32) (e : ∀ b : Fin 20, 1 ≤ b.val → h (ValueIdx.ix1 b) = h' (ValueIdx.ix1 b)) :
    Choice.cost lc h = Choice.cost lc h' := by
  have hb : Choice.bins (F := F) h = Choice.bins h' :=
    Cert.ReferenceIdeal.Count.set_first (sitofp .f32 h) (sitofp .f32 h') _ fun b h1 => congrArg (fun w : BitVec 32 => (FloatOps.sitofp .f32 w : F .f32)) (e b h1)
  unfold Choice.cost
  rw [hb]

/-- A row of counts at a label. -/
theorem row_apply (s : Fin 4) (hs : S4x1x128.Slices ![s.val, 0, 0] S1x1x20) (h : IVec S4x1x128 32) (b : Fin 20) :
    Choice.row ![s.val, 0, 0] hs h (ValueIdx.ix1 b) = h (ValueIdx.ix3 s (0 : Fin 1) (⟨b.val, by have := b.isLt; omega⟩ : Fin 128)) := by
  unfold Choice.row
  refine (shapeCast_apply (extractStridedSlice S1x1x20 ![s.val, 0, 0] h hs) shapeCasts_S1x1x20_S20 (ValueIdx.ix1 b)
    (ValueIdx.ix3 (0 : Fin 1) (0 : Fin 1) b) ?_).trans ?_
  · revert b; decide +kernel
  · refine extractStridedSlice_apply _ h hs _ _ fun a => ?_
    match a with
    | ⟨0, _⟩ => rfl
    | ⟨1, _⟩ => rfl
    | ⟨2, _⟩ => exact (Nat.zero_add _).symm

variable (m : (ℓ : Loc nD τ sig) → Buf (Elt F) ℓ)

theorem V2_v0 (c : Dev nD) : V2 m (outsH m) c main_v0 = hist m c := by
  unfold V2; rw [Function.update_self, outsH_v0]
theorem V2_arg2 (c : Dev nD) : V2 m (outsH m) c main_arg2 = m ((c : Thread nD τ).loc main_arg2) := by
  rw [V2_of m (outsH m) c main_arg2 (by decide), V1_of m c main_arg2 (by decide)]

/-- A row of counts costs what the reference's counts of that crop cost. -/
theorem row_worth (c : Dev nD) (s : Fin 4) (hs : S4x1x128.Slices ![s.val, 0, 0] S1x1x20) :
    Choice.cost (V2 m (outsH m) c main_arg2) (Choice.row ![s.val, 0, 0] hs (V2 m (outsH m) c main_v0))
      = worth (m ((c : Thread nD τ).loc main_arg2)) (Hist.crop (m ((c : Thread nD τ).loc main_arg1)) s) := by
  rw [V2_v0, V2_arg2]
  unfold worth
  refine cost_eq _ _ _ fun b h1 => ?_
  rw [row_apply, Cert.ReferenceIdeal.Count.counts_apply _ b h1]
  exact hist_apply m c s _ h1 (Nat.lt_succ_iff.mp b.isLt)

/-- The four costs are the reference's, from the same arguments. -/
theorem kosts_eq (c : Dev nD) (V0 : Valuation Cert.ReferenceIdeal.τ Cert.ReferenceIdeal.sig (Elt F))
    (h1 : V0 (Proc.devRef .tc Cert.ReferenceIdeal.main_arg1) = m ((c : Thread nD τ).loc main_arg1))
    (h2 : V0 (Proc.devRef .tc Cert.ReferenceIdeal.main_arg2) = m ((c : Thread nD τ).loc main_arg2)) :
    kosts m c = refCosts V0 := by
  have e0 := row_worth m c 0 slices_S4x1x128_S1x1x20_0_0_0
  have e1 := row_worth m c 1 slices_S4x1x128_S1x1x20_1_0_0
  have e2 := row_worth m c 2 slices_S4x1x128_S1x1x20_2_0_0
  have e3 := row_worth m c 3 slices_S4x1x128_S1x1x20_3_0_0
  rw [← h1, ← h2] at e0 e1 e2 e3
  unfold kosts Choice.costs refCosts
  exact congr (congr (congrArg₂ Costs.mk e0 e1) e2) e3
end

end Cert.Proof
-- ==== Proof.CropArray.lean ====
/- The two arrays that the cropping call leaves: the crop of the image and the crop of the label map at
   the corner of the cheapest of the four. -/
module

public import proofs.«01_k».proof.Proof.CropValue
public import proofs.«01_k».proof.Proof.Table
public import Idealize.ShloMosaic.Lib.Pipeline.ValueKit

@[expose] public section

set_option maxRecDepth 16384

noncomputable section

namespace Cert.Kernel.Whole

open Cert.Kernel Cert.Kernel.Gen
open Idealize.ShloMosaic Idealize.ShloMosaic.TcCoe Idealize.ShloMosaic.Tactic

variable {F : FTy → Type} [FloatOps F]

/-! ## Where the blocks lie -/

section
variable (a : (pcfg1 (F := F)).Adm)

/-- The blocks written back cover each array, whatever the table holds. -/
theorem covers_img : ((cfg1 a).win (0 : Fin 2)).Covers :=
  of_decide_eq_true (by sl_kernel_rfl)
theorem covers_lab : ((cfg1 a).win (1 : Fin 2)).Covers :=
  of_decide_eq_true (by sl_kernel_rfl)

/-- The image block at a point is that channel; the label block is the array. -/
theorem index_img (t : Fin (cfg1 a).N) : ((cfg1 a).win (0 : Fin 2)).index t = ![t.val, 0, 0] := by
  show cc1_transform_2 (grid1.coords t) = _
  have h : ∀ t : Fin grid1.N, cc1_transform_2 (grid1.coords t) = ![t.val, 0, 0] := by decide +kernel
  exact h t
theorem index_lab (t : Fin (cfg1 a).N) : ((cfg1 a).win (1 : Fin 2)).index t = ![0, 0, 0] := rfl
end

variable (m : (ℓ : Loc nD τ sig) → Buf (Elt F) ℓ)

/-- The arguments are as launched when the second call runs. -/
theorem U_arg0 (c : Dev nD) : U m c main_arg0 = m ((c : Thread nD τ).loc main_arg0) :=
  (V22_of m (outsH m) c main_arg0 (by decide)).symm.trans (V22_main_arg0 m (outsH m) c)
theorem U_arg1 (c : Dev nD) : U m c main_arg1 = m ((c : Thread nD τ).loc main_arg1) :=
  (V22_of m (outsH m) c main_arg1 (by decide)).symm.trans (V22_main_arg1 m (outsH m) c)

/-- The image result. -/
theorem img_eq (c : Dev nD) : img m (table_fits m) c = Crop.shot (m ((c : Thread nD τ).loc main_arg0)) (kosts m 0).which := by
  refine Eq.trans ?_ (congrArg (fun I => Crop.shot I (kosts m 0).which) (U_arg0 m c))
  unfold img
  refine (Crop.dat (U m) (adm1 m) (table_fits m) c).arrAt_eq_of_covers (0 : Fin 2)
    (Crop.shot (U m c main_arg0) (kosts m 0).which) (covers_img (adm1 m)) fun t hf y => ?_
  blk_simp
  rw [Crop.dat_after0]
  have e : (((cfg1 (adm1 m)).win (0 : Fin 2)).blk t).view.emb y
      = (ValueIdx.ix3 (⟨t.val, Nat.lt_of_lt_of_eq t.isLt N_1⟩ : Fin 3) (y 1 : Fin 720) (y 2 : Fin 1280) : S3x720x1280.Idx) := by
    blk_ext [index_img (adm1 m) t]
  rw [e]
  exact Crop.outI_apply (U m) (adm1 m) (table_fits m) c (kosts m 0).which (top_eq m c) (left_eq m c) t ⟨t.val, Nat.lt_of_lt_of_eq t.isLt N_1⟩ rfl y

/-- The label result. -/
theorem lab_eq (c : Dev nD) : lab m (table_fits m) c = Hist.crop (m ((c : Thread nD τ).loc main_arg1)) (kosts m 0).which := by
  refine Eq.trans ?_ (congrArg (fun I => Hist.crop I (kosts m 0).which) (U_arg1 m c))
  unfold lab
  refine (Crop.dat (U m) (adm1 m) (table_fits m) c).arrAt_eq_of_covers (1 : Fin 2)
    (Hist.crop (U m c main_arg1) (kosts m 0).which) (covers_lab (adm1 m)) fun t hf y => ?_
  blk_simp
  rw [Crop.dat_after1]
  have e : (((cfg1 (adm1 m)).win (1 : Fin 2)).blk t).view.emb y = (y : S1x720x1280.Idx) := by
    blk_ext [index_lab (adm1 m) t]
  rw [e]
  exact Crop.outL_apply (U m) (adm1 m) (table_fits m) c (kosts m 0).which (top_eq m c) (left_eq m c) y

end Cert.Kernel.Whole
-- ==== Proof.Equation.lean ====
/- The value claim: run from the same arguments, the kernel and the reference end with the same three
   results, at every instance of the float values; stated of the idealized kernel at the extended reals. -/
module

public import proofs.«01_k».proof.Proof.Costs
public import proofs.«01_k».proof.Proof.CropArray
public import proofs.«01_k».proof.Proof.Frames

@[expose] public section

set_option maxRecDepth 16384

noncomputable section

namespace Cert.Proof

open Idealize.ShloMosaic Idealize.ShloMosaic.TcCoe Idealize.SL.Sem Idealize.ShloMosaic.Tactic
open Cert.Kernel.Choice (Costs)

/-! ## The reference's choice -/

section
open Cert.ReferenceIdeal
variable {F : FTy → Type} [FloatOps F]

/-- The reference selects among four arrays as the cheapest crop says. -/
theorem select_which {e : EltTy} {s : Shape} (hb : S_.BroadcastsInDim s ![]) (k : Costs F) (x : Fin 4 → s.Idx → Elt F e) :
    select (broadcastInDim s ![] hb k.p3) (x 3) (select (broadcastInDim s ![] hb k.p2) (x 2) (select (broadcastInDim s ![] hb k.p1) (x 1) (x 0)))
      = x k.which := by
  funext j
  have hp : ∀ p : IVec S_ 1, broadcastInDim s ![] hb p j = p (Shape.Idx.first Cert.Kernel.Gen.h_S_) := fun p =>
    congrArg p (Costs.scalar_idx _)
  show Scalar.select (broadcastInDim s ![] hb k.p3 j) _ (Scalar.select (broadcastInDim s ![] hb k.p2 j) _ (Scalar.select (broadcastInDim s ![] hb k.p1 j) _ _)) = _
  rw [hp, hp, hp]
  unfold Costs.which Scalar.select
  split_ifs <;> rfl
end

/-! ## Both runs -/

/-- The value claim of the kernel at float values `F`. -/
def KernelValue (F : FTy → Type) [FloatOps F] : Prop :=
  ∀ (m : (ℓ : Loc Cert.Kernel.nD Cert.Kernel.τ Cert.Kernel.sig) → Buf (Elt F) ℓ) (g : Dev Cert.Kernel.nD → PrngReg)
    (m' : (ℓ : Loc Cert.ReferenceIdeal.nD Cert.ReferenceIdeal.τ Cert.ReferenceIdeal.sig) → Buf (Elt F) ℓ) (g' : Dev Cert.ReferenceIdeal.nD → PrngReg), True →
    (∀ c : Dev Cert.Kernel.nD,
      m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)) →
    ∃ (v0 : (c : Dev Cert.Kernel.nD) → Buf (Elt F) ((c.tc : Thread Cert.Kernel.nD Cert.Kernel.τ).loc Cert.Kernel.main_v89_0)) (v1 : (c : Dev Cert.Kernel.nD) → Buf (Elt F) ((c.tc : Thread Cert.Kernel.nD Cert.Kernel.τ).loc Cert.Kernel.main_v89_1)) (v2 : (c : Dev Cert.Kernel.nD) → Buf (Elt F) ((c.tc : Thread Cert.Kernel.nD Cert.Kernel.τ).loc Cert.Kernel.main_v79)),
      θ_run (Cert.Kernel.defs (F := F)) (onTc (τ := Cert.Kernel.τ) (Cert.Kernel.main (F := F))) ⟨m, fun _ => 0, g⟩ (fun r => ∀ c : Dev Cert.Kernel.nD,
          r.2.mem ((c.tc : Thread Cert.Kernel.nD Cert.Kernel.τ).loc Cert.Kernel.main_v89_0) = v0 c
          ∧ r.2.mem ((c.tc : Thread Cert.Kernel.nD Cert.Kernel.τ).loc Cert.Kernel.main_v89_1) = v1 c
          ∧ r.2.mem ((c.tc : Thread Cert.Kernel.nD Cert.Kernel.τ).loc Cert.Kernel.main_v79) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

set_option maxHeartbeats 1000000 in
/-- At the extended reals it is the claim of the idealized kernel. -/
theorem value_ideal : KernelValue Ideal = Cert.algebraic_KernelIdeal_ReferenceIdeal := by sl_kernel_rfl

section
open Cert.Kernel Cert.Kernel.Gen Cert.Kernel.Whole
variable {F : FTy → Type} [FloatOps F]

/-- The kernel's run: the crops at the cheapest corner, and the least cost. -/
theorem kernel_run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v89_0) = Cert.Kernel.Crop.shot (F := F) (m ((c.tc : Thread nD τ).loc main_arg0)) (kosts m 0).which
      ∧ r.2.mem ((c.tc : Thread nD τ).loc main_v89_1) = Cert.Kernel.Hist.crop (m ((c.tc : Thread nD τ).loc main_arg1)) (kosts m 0).which
      ∧ r.2.mem ((c.tc : Thread nD τ).loc main_v79) = (kosts m c).b3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (run_main m (table_fits m) g)
  have at' : ∀ b : Ref sig .tc, Proc.devRef .tc b ∈ Pipeline.ucRefs τ sig →
      r.2.mem ((c.tc : Thread nD τ).loc b) = V22 m (outs m (table_fits m)) c (Proc.devRef .tc b) := fun b hb => h.1 c b hb
  refine ⟨?_, ?_, ?_, ?_, ?_, ?_⟩
  · exact ((at' main_v89_0 (Finset.mem_filter.mpr ⟨StableHlo.devRef_mem_tcRefs main_v89_0, by decide⟩)).trans (V22_img m (table_fits m) c)).trans (img_eq m c)
  · exact ((at' main_v89_1 (Finset.mem_filter.mpr ⟨StableHlo.devRef_mem_tcRefs main_v89_1, by decide⟩)).trans (V22_lab m (table_fits m) c)).trans (lab_eq m c)
  · exact ((at' main_v79 (Finset.mem_filter.mpr ⟨StableHlo.devRef_mem_tcRefs main_v79, by decide⟩)).trans
      (V22_rest m (table_fits m) c (Proc.devRef .tc main_v79) (by decide)).symm).trans (U_cost m c)
  · exact (at' main_arg0 (Finset.mem_filter.mpr ⟨StableHlo.devRef_mem_tcRefs main_arg0, by decide⟩)).trans (V22_main_arg0 m (outs m (table_fits m)) c)
  · exact (at' main_arg1 (Finset.mem_filter.mpr ⟨StableHlo.devRef_mem_tcRefs main_arg1, by decide⟩)).trans (V22_main_arg1 m (outs m (table_fits m)) c)
  · exact (at' main_arg2 (Finset.mem_filter.mpr ⟨StableHlo.devRef_mem_tcRefs main_arg2, by decide⟩)).trans (V22_main_arg2 m (outs m (table_fits m)) c)
end

section
open Cert.ReferenceIdeal Cert.ReferenceIdeal.Value
variable {F : FTy → Type} [FloatOps F]

/-- The reference's run, with its costs and its choice named. -/
theorem reference_run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v121) = Cert.Kernel.Crop.shot (F := F) (m ((c.tc : Thread nD τ).loc main_arg0)) (refCosts (StableHlo.launchContents m c)).which
      ∧ r.2.mem ((c.tc : Thread nD τ).loc main_v122) = Cert.Kernel.Hist.crop (m ((c.tc : Thread nD τ).loc main_arg1)) (refCosts (StableHlo.launchContents m c)).which
      ∧ r.2.mem ((c.tc : Thread nD τ).loc main_v123) = (refCosts (StableHlo.launchContents m c)).b3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (run (F := F) m g)
  obtain ⟨h0, h1, h2, hr⟩ := h c
  refine ⟨h0.trans ?_, h1.trans ?_, h2.trans (ref_b3 _), hr⟩
  · rw [ref_p1, ref_p2, ref_p3]
    rw [slice_image 3 _ _ (by funext a; match a with | ⟨0, _⟩ => rfl | ⟨1, _⟩ => rfl | ⟨2, _⟩ => rfl),
      slice_image 2 _ _ (by funext a; match a with | ⟨0, _⟩ => rfl | ⟨1, _⟩ => rfl | ⟨2, _⟩ => rfl),
      slice_image 1 _ _ (by funext a; match a with | ⟨0, _⟩ => rfl | ⟨1, _⟩ => rfl | ⟨2, _⟩ => rfl),
      slice_image 0 _ _ (by funext a; match a with | ⟨0, _⟩ => rfl | ⟨1, _⟩ => rfl | ⟨2, _⟩ => rfl)]
    exact select_which (e := .f32) _ _ (fun s => Cert.Kernel.Crop.shot (F := F) (m ((c.tc : Thread nD τ).loc main_arg0)) s)
  · rw [ref_p1, ref_p2, ref_p3, ref_crop0, ref_crop1, ref_crop2, ref_crop3]
    exact select_which (F := F) (e := .i32) _ _ (fun s => Cert.Kernel.Hist.crop (m ((c.tc : Thread nD τ).loc main_arg1)) s)
end

/-- Both runs end with the same results. -/
theorem kernel_value (F : FTy → Type) [FloatOps F] : KernelValue F := by
  intro m g m' g' _ hargs
  refine ⟨_, _, _, kernel_run m g, ?_⟩
  refine (θ_run _ _ _).mono (fun r h c => ?_) (reference_run m' g')
  obtain ⟨e0, e1, e2⟩ := hargs c
  have ek : Cert.Kernel.Whole.kosts m c = refCosts (StableHlo.launchContents m' c) :=
    kosts_eq m c (StableHlo.launchContents m' c) e1 e2
  have ek0 : Cert.Kernel.Whole.kosts m 0 = refCosts (StableHlo.launchContents m' c) := by
    obtain rfl : c = 0 := Subsingleton.elim _ _
    exact ek
  obtain ⟨h0, h1, h2, hr⟩ := h c
  refine ⟨h0.trans ?_, h1.trans ?_, h2.trans ?_, hr⟩
  · rw [ek0, e0]
  · rw [ek0, e1]
  · rw [ek]

/-- The value claim. -/
theorem algebraic : Cert.algebraic_KernelIdeal_ReferenceIdeal := value_ideal ▸ kernel_value Ideal

end Cert.Proof
end
-- ==== Proof.lean ====
/- The certificate of the kernel: its frame on the hardware's floats and over the extended reals, the
   reference's frame, that the two prints of the kernel are the same program, and that the kernel's three
   results are the reference's. -/
module

public import proofs.«01_k».proof.Defs
public import proofs.«01_k».proof.Proof.Frames
public import proofs.«01_k».proof.Proof.Equation

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
